-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unbiased [hPre_finite_unbiased : Cert.Pre_finite_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unbiased [hPre_finite_unbiased : Cert.Pre_finite_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_unbiased [hKernelIdeal : Cert.KernelIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_unbiased [hReferenceIdeal : Cert.ReferenceIdeal.Facts] [hPre_finite_unbiased : Cert.Pre_finite_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_unbiased [hKernelIdeal : Cert.KernelIdeal.Facts] [hReferenceIdeal : Cert.ReferenceIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_unbiased : Cert.Pre_finite_unbiased.Facts),
    quiescent_Kernel (hKernel := hKernel)
    ∧ quiescent_KernelIdeal (hKernelIdeal := hKernelIdeal)
    ∧ quiescent_KernelIdeal_pre_finite_unbiased (hKernelIdeal := hKernelIdeal) (hPre_finite_unbiased := hPre_finite_unbiased)
    ∧ quiescent_ReferenceIdeal (hReferenceIdeal := hReferenceIdeal)
    ∧ quiescent_ReferenceIdeal_pre_finite_unbiased (hReferenceIdeal := hReferenceIdeal) (hPre_finite_unbiased := hPre_finite_unbiased)
    ∧ preserves_Kernel_KernelIdeal
    ∧ algebraic_KernelIdeal_ReferenceIdeal_pre_finite_unbiased (hKernelIdeal := hKernelIdeal) (hReferenceIdeal := hReferenceIdeal) (hPre_finite_unbiased := hPre_finite_unbiased)
-- ==== Pre_finite_unbiased.lean ====
abbrev S128x2x512 : Shape := ⟨3, ![128, 2, 512]⟩
abbrev S1x1x64x512 : Shape := ⟨4, ![1, 1, 64, 512]⟩
abbrev S6x512 : Shape := ⟨2, ![6, 512]⟩
abbrev S6 : Shape := ⟨1, ![6]⟩
abbrev S64x32768 : Shape := ⟨2, ![64, 32768]⟩
abbrev S512x512 : Shape := ⟨2, ![512, 512]⟩
abbrev S512 : Shape := ⟨1, ![512]⟩
abbrev S_ : Shape := ⟨0, ![]⟩

class Facts : Prop where
  bcast_S_S128x2x512 : S_.BroadcastsInDim S128x2x512 (![] : Fin 0 → Fin S128x2x512.rank)
  bcast_S_S1x1x64x512 : S_.BroadcastsInDim S1x1x64x512 (![] : Fin 0 → Fin S1x1x64x512.rank)
  bcast_S_S64x32768 : S_.BroadcastsInDim S64x32768 (![] : Fin 0 → Fin S64x32768.rank)
  bcast_S_S6 : S_.BroadcastsInDim S6 (![] : Fin 0 → Fin S6.rank)
  bcast_S_S512x512 : S_.BroadcastsInDim S512x512 (![] : Fin 0 → Fin S512x512.rank)
  bcast_S_S512 : S_.BroadcastsInDim S512 (![] : Fin 0 → Fin S512.rank)

variable [Facts]

def fn_part1 {F : FTy → Type} [FloatOps F] (main_arg8 : FVec F S512 .f32) (main_v2 : IVec S128x2x512 1) (main_v5 : IVec S1x1x64x512 1) (main_v8 : IVec S64x32768 1) (main_v11 : IVec S64x32768 1) (main_v13 : IVec S6 1) (main_v15 : IVec S512x512 1) (main_v16 : FVec F S512 .f32) : IVec S128x2x512 1 × IVec S1x1x64x512 1 × IVec S64x32768 1 × IVec S64x32768 1 × IVec S6 1 × IVec S512x512 1 × IVec S512 1 :=
  let main_v17 : IVec S512 1 := cmpf .oeq main_arg8 main_v16
  (main_v2, main_v5, main_v8, main_v11, main_v13, main_v15, main_v17)

def fn {F : FTy → Type} [FloatOps F] (main_arg0 : FVec F S128x2x512 .f32) (main_arg1 : FVec F S128x2x512 .f32) (main_arg2 : FVec F S1x1x64x512 .f32) (main_arg3 : FVec F S6x512 .f32) (main_arg4 : FVec F S6 .f32) (main_arg5 : FVec F S64x32768 .f32) (main_arg6 : FVec F S64x32768 .f32) (main_arg7 : FVec F S512x512 .f32) (main_arg8 : FVec F S512 .f32) : IVec S128x2x512 1 × IVec S1x1x64x512 1 × IVec S64x32768 1 × IVec S64x32768 1 × IVec S6 1 × IVec S512x512 1 × IVec S512 1 :=
  let main_v0 : FVec F S128x2x512 .f32 := Host.absf main_arg0
  let main_cst : FVec F S_ .f32 := constant S_ .f32 0x7F800000#32
  let main_v1 : FVec F S128x2x512 .f32 := broadcastInDim S128x2x512 ![] bcast_S_S128x2x512 main_cst
  let main_v2 : IVec S128x2x512 1 := cmpf .olt main_v0 main_v1
  let main_v3 : FVec F S1x1x64x512 .f32 := Host.absf main_arg2
  let main_cst_0 : FVec F S_ .f32 := constant S_ .f32 0x7F800000#32
  let main_v4 : FVec F S1x1x64x512 .f32 := broadcastInDim S1x1x64x512 ![] bcast_S_S1x1x64x512 main_cst_0
  let main_v5 : IVec S1x1x64x512 1 := cmpf .olt main_v3 main_v4
  let main_v6 : FVec F S64x32768 .f32 := Host.absf main_arg5
  let main_cst_1 : FVec F S_ .f32 := constant S_ .f32 0x7F800000#32
  let main_v7 : FVec F S64x32768 .f32 := broadcastInDim S64x32768 ![] bcast_S_S64x32768 main_cst_1
  let main_v8 : IVec S64x32768 1 := cmpf .olt main_v6 main_v7
  let main_v9 : FVec F S64x32768 .f32 := Host.absf main_arg6
  let main_cst_2 : FVec F S_ .f32 := constant S_ .f32 0x7F800000#32
  let main_v10 : FVec F S64x32768 .f32 := broadcastInDim S64x32768 ![] bcast_S_S64x32768 main_cst_2
  let main_v11 : IVec S64x32768 1 := cmpf .olt main_v9 main_v10
  let main_cst_3 : FVec F S_ .f32 := constant S_ .f32 0x00000000#32
  let main_v12 : FVec F S6 .f32 := broadcastInDim S6 ![] bcast_S_S6 main_cst_3
  let main_v13 : IVec S6 1 := cmpf .oeq main_arg4 main_v12
  let main_cst_4 : FVec F S_ .f32 := constant S_ .f32 0x00000000#32
  let main_v14 : FVec F S512x512 .f32 := broadcastInDim S512x512 ![] bcast_S_S512x512 main_cst_4
  let main_v15 : IVec S512x512 1 := cmpf .oeq main_arg7 main_v14
  let main_cst_5 : FVec F S_ .f32 := constant S_ .f32 0x00000000#32
  let main_v16 : FVec F S512 .f32 := broadcastInDim S512 ![] bcast_S_S512 main_cst_5
  fn_part1 (F := F) main_arg8 main_v2 main_v5 main_v8 main_v11 main_v13 main_v15 main_v16
-- ==== Kernel.lean ====
abbrev S128x2x512 : Shape := ⟨3, ![128, 2, 512]⟩
abbrev S1x1x64x512 : Shape := ⟨4, ![1, 1, 64, 512]⟩
abbrev S6x512 : Shape := ⟨2, ![6, 512]⟩
abbrev S6 : Shape := ⟨1, ![6]⟩
abbrev S64x32768 : Shape := ⟨2, ![64, 32768]⟩
abbrev S512x512 : Shape := ⟨2, ![512, 512]⟩
abbrev S512 : Shape := ⟨1, ![512]⟩
abbrev S256x512 : Shape := ⟨2, ![256, 512]⟩
abbrev S64x512 : Shape := ⟨2, ![64, 512]⟩
abbrev S64x512x64 : Shape := ⟨3, ![64, 512, 64]⟩
abbrev S16x512x64 : Shape := ⟨3, ![16, 512, 64]⟩
abbrev S256x64 : Shape := ⟨2, ![256, 64]⟩
abbrev S256x1 : Shape := ⟨2, ![256, 1]⟩
abbrev S256x6 : Shape := ⟨2, ![256, 6]⟩
abbrev S1x6 : Shape := ⟨2, ![1, 6]⟩
abbrev S256 : Shape := ⟨1, ![256]⟩
abbrev S1x512x64 : Shape := ⟨3, ![1, 512, 64]⟩
abbrev S512x64 : Shape := ⟨2, ![512, 64]⟩
abbrev S256x1024 : Shape := ⟨2, ![256, 1024]⟩
abbrev S512x1024 : Shape := ⟨2, ![512, 1024]⟩
abbrev S_ : Shape := ⟨0, ![]⟩
abbrev S1 : Shape := ⟨1, ![1]⟩

abbrev nBuf : Space → Nat
  | .hbm => 17
  | .vmem => 10
  | .smem => 0
  | _ => 0

abbrev bufTy : (tb : Table) → Fin (tcTables nBuf tb) → BufTy
  | .hbm, ⟨0, _⟩ => ⟨S128x2x512, .f32⟩
  | .hbm, ⟨1, _⟩ => ⟨S128x2x512, .f32⟩
  | .hbm, ⟨2, _⟩ => ⟨S1x1x64x512, .f32⟩
  | .hbm, ⟨3, _⟩ => ⟨S6x512, .f32⟩
  | .hbm, ⟨4, _⟩ => ⟨S6, .f32⟩
  | .hbm, ⟨5, _⟩ => ⟨S64x32768, .f32⟩
  | .hbm, ⟨6, _⟩ => ⟨S64x32768, .f32⟩
  | .hbm, ⟨7, _⟩ => ⟨S512x512, .f32⟩
  | .hbm, ⟨8, _⟩ => ⟨S512, .f32⟩
  | .hbm, ⟨9, _⟩ => ⟨S256x512, .f32⟩
  | .hbm, ⟨10, _⟩ => ⟨S64x512, .f32⟩
  | .hbm, ⟨11, _⟩ => ⟨S64x512x64, .f32⟩
  | .hbm, ⟨12, _⟩ => ⟨S64x512x64, .f32⟩
  | .hbm, ⟨13, _⟩ => ⟨S256x512, .f32⟩
  | .hbm, ⟨14, _⟩ => ⟨S_, .f32⟩
  | .hbm, ⟨15, _⟩ => ⟨S1, .f32⟩
  | .hbm, ⟨16, _⟩ => ⟨S128x2x512, .f32⟩
  | .local _ .vmem, ⟨0, _⟩ => ⟨S256x512, .f32⟩
  | .local _ .vmem, ⟨1, _⟩ => ⟨S6x512, .f32⟩
  | .local _ .vmem, ⟨2, _⟩ => ⟨S64x512, .f32⟩
  | .local _ .vmem, ⟨3, _⟩ => ⟨S16x512x64, .f32⟩
  | .local _ .vmem, ⟨4, _⟩ => ⟨S16x512x64, .f32⟩
  | .local _ .vmem, ⟨5, _⟩ => ⟨S16x512x64, .f32⟩
  | .local _ .vmem, ⟨6, _⟩ => ⟨S16x512x64, .f32⟩
  | .local _ .vmem, ⟨7, _⟩ => ⟨S256x512, .f32⟩
  | .local _ .vmem, ⟨8, _⟩ => ⟨S256x64, .f32⟩
  | .local _ .vmem, ⟨9, _⟩ => ⟨S256x1, .i32⟩
  | _, _ => ⟨S128x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S128x2x512 : Shape := ⟨3, ![128, 2, 512]⟩
abbrev S1x1x64x512 : Shape := ⟨4, ![1, 1, 64, 512]⟩
abbrev S6x512 : Shape := ⟨2, ![6, 512]⟩
abbrev S6 : Shape := ⟨1, ![6]⟩
abbrev S64x32768 : Shape := ⟨2, ![64, 32768]⟩
abbrev S512x512 : Shape := ⟨2, ![512, 512]⟩
abbrev S512 : Shape := ⟨1, ![512]⟩
abbrev S256x512 : Shape := ⟨2, ![256, 512]⟩
abbrev S512x6 : Shape := ⟨2, ![512, 6]⟩
abbrev S256x6 : Shape := ⟨2, ![256, 6]⟩
abbrev S1x6 : Shape := ⟨2, ![1, 6]⟩
abbrev S_ : Shape := ⟨0, ![]⟩
abbrev S256 : Shape := ⟨1, ![256]⟩
abbrev S256x1 : Shape := ⟨2, ![256, 1]⟩
abbrev S256x32768 : Shape := ⟨2, ![256, 32768]⟩
abbrev S128x2x512x64 : Shape := ⟨4, ![128, 2, 512, 64]⟩
abbrev S64x512 : Shape := ⟨2, ![64, 512]⟩
abbrev S128x2x512x512 : Shape := ⟨4, ![128, 2, 512, 512]⟩
abbrev S128x2x512x1 : Shape := ⟨4, ![128, 2, 512, 1]⟩
abbrev S1x1x512 : Shape := ⟨3, ![1, 1, 512]⟩
abbrev S1 : Shape := ⟨1, ![1]⟩

abbrev nBuf : Space → Nat
  | .hbm => 187
  | .vmem => 0
  | .smem => 0
  | _ => 0

abbrev hbmTy0_0 (i : Nat) : BufTy := match i % 128 with
  | 0 => ⟨S128x2x512, .f32⟩
  | 1 => ⟨S128x2x512, .f32⟩
  | 2 => ⟨S1x1x64x512, .f32⟩
  | 3 => ⟨S6x512, .f32⟩
  | 4 => ⟨S6, .f32⟩
  | 5 => ⟨S64x32768, .f32⟩
  | 6 => ⟨S64x32768, .f32⟩
  | 7 => ⟨S512x512, .f32⟩
  | 8 => ⟨S512, .f32⟩
  | 9 => ⟨S256x512, .f32⟩
  | 10 => ⟨S512x6, .f32⟩
  | 11 => ⟨S256x6, .f32⟩
  | 12 => ⟨S1x6, .f32⟩
  | 13 => ⟨S256x6, .f32⟩
  | 14 => ⟨S256x6, .f32⟩
  | 15 => ⟨S256x6, .f32⟩
  | 16 => ⟨S256x6, .f32⟩
  | 17 => ⟨S_, .f32⟩
  | 18 => ⟨S256x6, .f32⟩
  | 19 => ⟨S256x6, .f32⟩
  | 20 => ⟨S_, .f32⟩
  | 21 => ⟨S256x6, .f32⟩
  | 22 => ⟨S256x6, .f32⟩
  | 23 => ⟨S_, .f32⟩
  | 24 => ⟨S256x6, .f32⟩
  | 25 => ⟨S256x6, .f32⟩
  | 26 => ⟨S_, .f32⟩
  | 27 => ⟨S256x6, .f32⟩
  | 28 => ⟨S256x6, .f32⟩
  | 29 => ⟨S_, .f32⟩
  | 30 => ⟨S256x6, .f32⟩
  | 31 => ⟨S256x6, .f32⟩
  | 32 => ⟨S_, .f32⟩
  | 33 => ⟨S_, .f32⟩
  | 34 => ⟨S_, .f32⟩
  | 35 => ⟨S256x6, .f32⟩
  | 36 => ⟨S256x6, .f32⟩
  | 37 => ⟨S_, .f32⟩
  | 38 => ⟨S256x6, .f32⟩
  | 39 => ⟨S256x6, .f32⟩
  | 40 => ⟨S_, .f32⟩
  | 41 => ⟨S256x6, .f32⟩
  | 42 => ⟨S256x6, .i1⟩
  | 43 => ⟨S256x6, .f32⟩
  | 44 => ⟨S6, .i32⟩
  | 45 => ⟨S_, .i32⟩
  | 46 => ⟨S_, .i32⟩
  | 47 => ⟨S_, .i1⟩
  | 48 => ⟨S_, .i32⟩
  | 49 => ⟨S6, .i32⟩
  | 50 => ⟨S6, .i1⟩
  | 51 => ⟨S6, .i1⟩
  | 52 => ⟨S6, .i1⟩
  | 53 => ⟨S_, .i32⟩
  | 54 => ⟨S_, .i32⟩
  | 55 => ⟨S6, .i32⟩
  | 56 => ⟨S6, .i32⟩
  | 57 => ⟨S6, .i32⟩
  | 58 => ⟨S_, .i32⟩
  | 59 => ⟨S6, .i32⟩
  | 60 => ⟨S6, .i32⟩
  | 61 => ⟨S_, .i32⟩
  | 62 => ⟨S6, .i32⟩
  | 63 => ⟨S6, .i32⟩
  | 64 => ⟨S_, .i32⟩
  | 65 => ⟨S6, .i32⟩
  | 66 => ⟨S6, .i1⟩
  | 67 => ⟨S6, .i32⟩
  | 68 => ⟨S_, .i32⟩
  | 69 => ⟨S_, .i32⟩
  | 70 => ⟨S_, .i32⟩
  | 71 => ⟨S_, .i32⟩
  | 72 => ⟨S6, .i32⟩
  | 73 => ⟨S6, .i32⟩
  | 74 => ⟨S_, .i32⟩
  | 75 => ⟨S6, .i32⟩
  | 76 => ⟨S6, .i32⟩
  | 77 => ⟨S6, .i32⟩
  | 78 => ⟨S6, .i32⟩
  | 79 => ⟨S_, .i32⟩
  | 80 => ⟨S6, .i32⟩
  | 81 => ⟨S6, .i1⟩
  | 82 => ⟨S6, .i32⟩
  | 83 => ⟨S_, .i32⟩
  | 84 => ⟨S_, .i32⟩
  | 85 => ⟨S6, .i32⟩
  | 86 => ⟨S6, .i32⟩
  | 87 => ⟨S_, .i32⟩
  | 88 => ⟨S6, .i32⟩
  | 89 => ⟨S6, .i32⟩
  | 90 => ⟨S6, .i32⟩
  | 91 => ⟨S6, .i32⟩
  | 92 => ⟨S_, .i32⟩
  | 93 => ⟨S6, .i32⟩
  | 94 => ⟨S6, .i1⟩
  | 95 => ⟨S6, .i32⟩
  | 96 => ⟨S_, .i32⟩
  | 97 => ⟨S_, .i32⟩
  | 98 => ⟨S6, .i32⟩
  | 99 => ⟨S6, .i32⟩
  | 100 => ⟨S_, .i32⟩
  | 101 => ⟨S6, .i32⟩
  | 102 => ⟨S6, .i32⟩
  | 103 => ⟨S6, .i32⟩
  | 104 => ⟨S6, .i32⟩
  | 105 => ⟨S_, .i32⟩
  | 106 => ⟨S6, .i32⟩
  | 107 => ⟨S6, .i1⟩
  | 108 => ⟨S6, .i32⟩
  | 109 => ⟨S_, .i32⟩
  | 110 => ⟨S_, .i32⟩
  | 111 => ⟨S6, .i32⟩
  | 112 => ⟨S6, .i32⟩
  | 113 => ⟨S_, .i32⟩
  | 114 => ⟨S6, .i32⟩
  | 115 => ⟨S6, .i32⟩
  | 116 => ⟨S6, .i32⟩
  | 117 => ⟨S6, .i32⟩
  | 118 => ⟨S_, .i32⟩
  | 119 => ⟨S6, .i32⟩
  | 120 => ⟨S6, .i1⟩
  | 121 => ⟨S6, .i32⟩
  | 122 => ⟨S_, .i32⟩
  | 123 => ⟨S_, .i32⟩
  | 124 => ⟨S6, .i32⟩
  | 125 => ⟨S6, .i32⟩
  | 126 => ⟨S_, .i32⟩
  | 127 => ⟨S6, .i32⟩
  | _ => ⟨S128x2x512, .f32⟩

abbrev hbmTy0_1 (i : Nat) : BufTy := match i % 128 with
  | 0 => ⟨S6, .i32⟩
  | 1 => ⟨S6, .i32⟩
  | 2 => ⟨S6, .i32⟩
  | 3 => ⟨S_, .i32⟩
  | 4 => ⟨S6, .i32⟩
  | 5 => ⟨S6, .i1⟩
  | 6 => ⟨S6, .i32⟩
  | 7 => ⟨S_, .i32⟩
  | 8 => ⟨S_, .i32⟩
  | 9 => ⟨S6, .i32⟩
  | 10 => ⟨S6, .i32⟩
  | 11 => ⟨S256x6, .i32⟩
  | 12 => ⟨S1x6, .i32⟩
  | 13 => ⟨S256x6, .i32⟩
  | 14 => ⟨S256x6, .i32⟩
  | 15 => ⟨S_, .i32⟩
  | 16 => ⟨S256, .i32⟩
  | 17 => ⟨S_, .f32⟩
  | 18 => ⟨S256x6, .f32⟩
  | 19 => ⟨S256x6, .f32⟩
  | 20 => ⟨S256x6, .i32⟩
  | 21 => ⟨S1x6, .i32⟩
  | 22 => ⟨S256x6, .i32⟩
  | 23 => ⟨S256x6, .i32⟩
  | 24 => ⟨S_, .i32⟩
  | 25 => ⟨S256, .i32⟩
  | 26 => ⟨S_, .i32⟩
  | 27 => ⟨S256, .i32⟩
  | 28 => ⟨S256, .i1⟩
  | 29 => ⟨S_, .i32⟩
  | 30 => ⟨S256, .i32⟩
  | 31 => ⟨S256, .i32⟩
  | 32 => ⟨S256, .i32⟩
  | 33 => ⟨S256x1, .i32⟩
  | 34 => ⟨S256x32768, .f32⟩
  | 35 => ⟨S_, .i32⟩
  | 36 => ⟨S256, .i32⟩
  | 37 => ⟨S256, .i1⟩
  | 38 => ⟨S_, .i32⟩
  | 39 => ⟨S256, .i32⟩
  | 40 => ⟨S256, .i32⟩
  | 41 => ⟨S256, .i32⟩
  | 42 => ⟨S256x1, .i32⟩
  | 43 => ⟨S256x32768, .f32⟩
  | 44 => ⟨S256x32768, .f32⟩
  | 45 => ⟨S128x2x512x64, .f32⟩
  | 46 => ⟨S64x512, .f32⟩
  | 47 => ⟨S128x2x512x512, .f32⟩
  | 48 => ⟨S128x2x512x1, .f32⟩
  | 49 => ⟨S128x2x512x1, .f32⟩
  | 50 => ⟨S128x2x512, .f32⟩
  | 51 => ⟨S512x512, .f32⟩
  | 52 => ⟨S128x2x512, .f32⟩
  | 53 => ⟨S1x1x512, .f32⟩
  | 54 => ⟨S128x2x512, .f32⟩
  | 55 => ⟨S128x2x512, .f32⟩
  | 56 => ⟨S128x2x512, .f32⟩
  | 57 => ⟨S_, .f32⟩
  | 58 => ⟨S1, .f32⟩
  | _ => ⟨S128x2x512, .f32⟩

abbrev hbmTy (i : Nat) : BufTy := match i / 128 with
  | 0 => hbmTy0_0 i
  | 1 => hbmTy0_1 i
  | _ => ⟨S128x2x512, .f32⟩

abbrev bufTy : (tb : Table) → Fin (tcTables nBuf tb) → BufTy
  | .hbm, ⟨i, _⟩ => hbmTy i
  | _, _ => ⟨S128x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c : Ref sig .tc := ⟨.hbm, 45, rfl⟩
abbrev main_c_7 : Ref sig .tc := ⟨.hbm, 46, rfl⟩
abbrev main_v23 : Ref sig .tc := ⟨.hbm, 47, rfl⟩
abbrev main_c_8 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_9 : Ref sig .tc := ⟨.hbm, 53, rfl⟩
abbrev main_c_10 : Ref sig .tc := ⟨.hbm, 54, rfl⟩
abbrev main_call1_v0 : Ref sig .tc := ⟨.hbm, 55, rfl⟩
abbrev main_call1_v1 : Ref sig .tc := ⟨.hbm, 56, rfl⟩
abbrev main_v28 : Ref sig .tc := ⟨.hbm, 57, rfl⟩
abbrev main_c_11 : Ref sig .tc := ⟨.hbm, 58, rfl⟩
abbrev main_v29 : Ref sig .tc := ⟨.hbm, 59, rfl⟩
abbrev main_v30 : Ref sig .tc := ⟨.hbm, 60, rfl⟩
abbrev main_c_12 : Ref sig .tc := ⟨.hbm, 61, rfl⟩
abbrev main_v31 : Ref sig .tc := ⟨.hbm, 62, rfl⟩
abbrev main_v32 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_v33 : Ref sig .tc := ⟨.hbm, 67, rfl⟩
abbrev main_c_13 : Ref sig .tc := ⟨.hbm, 68, rfl⟩
abbrev main_c_14 : Ref sig .tc := ⟨.hbm, 69, rfl⟩
abbrev main_v34 : Ref sig .tc := ⟨.hbm, 70, rfl⟩
abbrev main_c_15 : Ref sig .tc := ⟨.hbm, 71, rfl⟩
abbrev main_v35 : Ref sig .tc := ⟨.hbm, 72, rfl⟩
abbrev main_v36 : Ref sig .tc := ⟨.hbm, 73, rfl⟩
abbrev main_c_16 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_v41 : Ref sig .tc := ⟨.hbm, 82, rfl⟩
abbrev main_v42 : Ref sig .tc := ⟨.hbm, 83, rfl⟩
abbrev main_c_17 : Ref sig .tc := ⟨.hbm, 84, rfl⟩
abbrev main_v43 : Ref sig .tc := ⟨.hbm, 85, rfl⟩
abbrev main_v44 : Ref sig .tc := ⟨.hbm, 86, rfl⟩
abbrev main_c_18 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_v49 : Ref sig .tc := ⟨.hbm, 95, rfl⟩
abbrev main_v50 : Ref sig .tc := ⟨.hbm, 96, rfl⟩
abbrev main_c_19 : Ref sig .tc := ⟨.hbm, 97, rfl⟩
abbrev main_v51 : Ref sig .tc := ⟨.hbm, 98, rfl⟩
abbrev main_v52 : Ref sig .tc := ⟨.hbm, 99, rfl⟩
abbrev main_c_20 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_call5_c : Ref sig .tc := ⟨.hbm, 105, rfl⟩
abbrev main_call5_v0 : Ref sig .tc := ⟨.hbm, 106, rfl⟩
abbrev main_call5_v1 : Ref sig .tc := ⟨.hbm, 107, rfl⟩
abbrev main_v57 : Ref sig .tc := ⟨.hbm, 108, rfl⟩
abbrev main_v58 : Ref sig .tc := ⟨.hbm, 109, rfl⟩
abbrev main_c_21 : Ref sig .tc := ⟨.hbm, 110, rfl⟩
abbrev main_v59 : Ref sig .tc := ⟨.hbm, 111, rfl⟩
abbrev main_v60 : Ref sig .tc := ⟨.hbm, 112, rfl⟩
abbrev main_c_22 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_call6_c : Ref sig .tc := ⟨.hbm, 118, rfl⟩
abbrev main_call6_v0 : Ref sig .tc := ⟨.hbm, 119, rfl⟩
abbrev main_call6_v1 : Ref sig .tc := ⟨.hbm, 120, rfl⟩
abbrev main_v65 : Ref sig .tc := ⟨.hbm, 121, rfl⟩
abbrev main_v66 : Ref sig .tc := ⟨.hbm, 122, rfl⟩
abbrev main_c_23 : Ref sig .tc := ⟨.hbm, 123, rfl⟩
abbrev main_v67 : Ref sig .tc := ⟨.hbm, 124, rfl⟩
abbrev main_v68 : Ref sig .tc := ⟨.hbm, 125, rfl⟩
abbrev main_c_24 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_call7_c : Ref sig .tc := ⟨.hbm, 131, rfl⟩
abbrev main_call7_v0 : Ref sig .tc := ⟨.hbm, 132, rfl⟩
abbrev main_call7_v1 : Ref sig .tc := ⟨.hbm, 133, rfl⟩
abbrev main_v73 : Ref sig .tc := ⟨.hbm, 134, rfl⟩
abbrev main_v74 : Ref sig .tc := ⟨.hbm, 135, rfl⟩
abbrev main_c_25 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_c_26 : Ref sig .tc := ⟨.hbm, 143, rfl⟩
abbrev main_v81 : Ref sig .tc := ⟨.hbm, 144, rfl⟩
abbrev main_cst_27 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_c_28 : Ref sig .tc := ⟨.hbm, 152, rfl⟩
abbrev main_v88 : Ref sig .tc := ⟨.hbm, 153, rfl⟩
abbrev main_c_29 : Ref sig .tc := ⟨.hbm, 154, rfl⟩
abbrev main_v89 : Ref sig .tc := ⟨.hbm, 155, rfl⟩
abbrev main_v90 : Ref sig .tc := ⟨.hbm, 156, rfl⟩
abbrev main_c_30 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_c_31 : Ref sig .tc := ⟨.hbm, 163, rfl⟩
abbrev main_v96 : Ref sig .tc := ⟨.hbm, 164, rfl⟩
abbrev main_v97 : Ref sig .tc := ⟨.hbm, 165, rfl⟩
abbrev main_c_32 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_cst_33 : Ref sig .tc := ⟨.hbm, 185, rfl⟩
abbrev main_v116 : Ref sig .tc := ⟨.hbm, 186, rfl⟩

abbrev nD : Nat := 1
abbrev τ : Topo := Topo.v7x

variable {F : FTy → Type} [FloatOps F]
-- ==== Proof.Body.lean ====
module

public import proofs.«01_k».proof.Proof.Gen.KernelIdeal.Frame
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.KernelIdeal.Own

open Cert.KernelIdeal Cert.KernelIdeal.Gen

variable {F : FTy → Type} [FloatOps F]

/-- Two zero offsets. -/
theorem hz : (![0, 0] : Fin 2 → Nat) = fun _ => 0 := funext fun a => by fin_cases a <;> rfl

/-- The rectangle of matrix `j` lies inside the block. -/
theorem row_inb (j : Fin 16) : ∀ a, (![j.val, 0, 0] : Fin 3 → Nat) a + S1x512x64.size a ≤ S16x512x64.size a := by
  have := j.isLt
  intro a
  match a with
  | ⟨0, _⟩ => show j.val + 1 ≤ 16; omega
  | ⟨1, _⟩ => show 0 + 512 ≤ 512; omega
  | ⟨2, _⟩ => show 0 + 64 ≤ 64; omega

/-- Matrix `j` of a block of sixteen weight matrices, as the body loads it. -/
def row (x : Vec F S16x512x64 .f32) (j : Fin 16) : Vec F S1x512x64 .f32 :=
  View.ld x (Rect.unit (s := S16x512x64) ![j.val, 0, 0] S1x512x64.size (row_inb j))

/-- It holds the block's elements with first coordinate `j`. -/
theorem row_apply (x : Vec F S16x512x64 .f32) (j : Fin 16) (e : Fin 1) (o : Fin 512) (r : Fin 64) :
    row x j (ix3 e o r) = x (ix3 j o r) := by
  unfold row
  unfold View.ld
  congr 1
  funext a
  apply Fin.ext
  have h0 : (e : Nat) < 1 := e.isLt
  match a with
  | ⟨0, _⟩ => show j.val + 1 * e.val = j.val; omega
  | ⟨1, _⟩ => show 0 + 1 * o.val = o.val; omega
  | ⟨2, _⟩ => show 0 + 1 * r.val = r.val; omega

/-- The sum of two weight matrices. -/
def wsum (a b : Vec F S1x512x64 .f32) : FVec F S512x64 .f32 :=
  addf (shapeCast S512x64 a shapeCasts_S1x512x64_S512x64) (shapeCast S512x64 b shapeCasts_S1x512x64_S512x64)

/-- `v` with every row set to zero whose code is not `16 · i + w`. -/
def mask (i : grid0.Coords) (w : BitVec 32) (v : Vec F S256x64 .f32) (q : Vec F S256x1 .i32) : FVec F S256x64 .f32 :=
  mulf v (broadcastTo S256x64 (sitofp .f32 (extui 32 (cmpi .eq q (broadcast S256x1
    (Scalar.addi (Scalar.muli (BitVec.ofNat 32 (i 0).val) 16#32) w))) natLt_1_32)) broadcasts_S256x1_S256x64)

/-- One grid step: the sixteen masked copies of `v` side by side, times the sixteen weight sums side by side, added to
    what the output block holds. -/
def step (i : grid0.Coords) (x3 x4 : Vec F S16x512x64 .f32) (xo : Vec F S256x512 .f32) (v : Vec F S256x64 .f32)
    (q : Vec F S256x1 .i32) : Vec F S256x512 .f32 :=
  k0_pay3
    (concatenate S256x1024 1
      [⟨S256x64, mask i 0#32 v q⟩, ⟨S256x64, mask i 1#32 v q⟩, ⟨S256x64, mask i 2#32 v q⟩, ⟨S256x64, mask i 3#32 v q⟩, ⟨S256x64, mask i 4#32 v q⟩, ⟨S256x64, mask i 5#32 v q⟩, ⟨S256x64, mask i 6#32 v q⟩, ⟨S256x64, mask i 7#32 v q⟩, ⟨S256x64, mask i 8#32 v q⟩, ⟨S256x64, mask i 9#32 v q⟩, ⟨S256x64, mask i 10#32 v q⟩, ⟨S256x64, mask i 11#32 v q⟩, ⟨S256x64, mask i 12#32 v q⟩, ⟨S256x64, mask i 13#32 v q⟩, ⟨S256x64, mask i 14#32 v q⟩, ⟨S256x64, mask i 15#32 v q⟩]
      concatenates_S256x64_S256x64_S256x64_S256x64_S256x64_S256x64_S256x64_S256x64_S256x64_S256x64_S256x64_S256x64_S256x64_S256x64_S256x64_S256x64_S256x1024_d1)
    (concatenate S512x1024 1
      [⟨S512x64, wsum (row x3 0) (row x4 15)⟩, ⟨S512x64, wsum (row x3 1) (row x4 14)⟩, ⟨S512x64, wsum (row x3 2) (row x4 13)⟩, ⟨S512x64, wsum (row x3 3) (row x4 12)⟩, ⟨S512x64, wsum (row x3 4) (row x4 11)⟩, ⟨S512x64, wsum (row x3 5) (row x4 10)⟩, ⟨S512x64, wsum (row x3 6) (row x4 9)⟩, ⟨S512x64, wsum (row x3 7) (row x4 8)⟩, ⟨S512x64, wsum (row x3 8) (row x4 7)⟩, ⟨S512x64, wsum (row x3 9) (row x4 6)⟩, ⟨S512x64, wsum (row x3 10) (row x4 5)⟩, ⟨S512x64, wsum (row x3 11) (row x4 4)⟩, ⟨S512x64, wsum (row x3 12) (row x4 3)⟩, ⟨S512x64, wsum (row x3 13) (row x4 2)⟩, ⟨S512x64, wsum (row x3 14) (row x4 1)⟩, ⟨S512x64, wsum (row x3 15) (row x4 0)⟩]
      concatenates_S512x64_S512x64_S512x64_S512x64_S512x64_S512x64_S512x64_S512x64_S512x64_S512x64_S512x64_S512x64_S512x64_S512x64_S512x64_S512x64_S512x1024_d1)
    xo

/-- A later step adds its sixteen codes' products to what the output block holds. -/
theorem out_B (c : Dev nD) (i : grid0.Coords)
    (a1 : Memref sig .tc .vmem S256x512 .f32) (h1 : a1.IsWhole) (a2 : Memref sig .tc .vmem S6x512 .f32) (h2 : a2.IsWhole)
    (a3 : Memref sig .tc .vmem S64x512 .f32) (h3 : a3.IsWhole) (a4 : Memref sig .tc .vmem S16x512x64 .f32) (h4 : a4.IsWhole)
    (a5 : Memref sig .tc .vmem S16x512x64 .f32) (h5 : a5.IsWhole) (a6 : Memref sig .tc .vmem S256x512 .f32) (h6 : a6.IsWhole)
    (a7 : Memref sig .tc .vmem S256x64 .f32) (h7 : a7.IsWhole) (a8 : Memref sig .tc .vmem S256x1 .i32) (h8 : a8.IsWhole)
    (hc : ¬cond0_0 i) (x0 : Vec F S256x512 .f32) (x1 : Vec F S6x512 .f32) (x2 : Vec F S64x512 .f32)
    (x3 x4 : Vec F S16x512x64 .f32) (xo : Vec F S256x512 .f32) (v : Vec F S256x64 .f32) (q : Vec F S256x1 .i32) :
    out0_B_5 c i a1 h1 a2 h2 a3 h3 a4 h4 a5 h5 a6 h6 a7 h7 a8 h8 hc x0 x1 x2 x3 x4 xo v q = step i x3 x4 xo v q := by
  unfold out0_B_5
  rw [View.read_writes_eq_canon _ _ _ (cover0_B_5 c i a1 h1 a2 h2 a3 h3 a4 h4 a5 h5 a6 h6 a7 h7 a8 h8 hc x0 x1 x2 x3 x4 xo v q)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x512) hz, View.ld_unit_zero (S := S256x64) hz, View.ld_unit_zero (S := S256x1) hz, shapeCast_self]
  rw [h4.read_unread, h5.read_unread, h7.read_unread, h8.read_unread, View.ld_unit_zero (S := S256x64) hz, View.ld_unit_zero (S := S256x1) hz]
  rfl

/-- The first step leaves the projection `v` in the scratch that later steps read. -/
theorem sout_A_0 (c : Dev nD) (i : grid0.Coords)
    (a1 : Memref sig .tc .vmem S256x512 .f32) (h1 : a1.IsWhole) (a2 : Memref sig .tc .vmem S6x512 .f32) (h2 : a2.IsWhole)
    (a3 : Memref sig .tc .vmem S64x512 .f32) (h3 : a3.IsWhole) (a4 : Memref sig .tc .vmem S16x512x64 .f32) (h4 : a4.IsWhole)
    (a5 : Memref sig .tc .vmem S16x512x64 .f32) (h5 : a5.IsWhole) (a6 : Memref sig .tc .vmem S256x512 .f32) (h6 : a6.IsWhole)
    (a7 : Memref sig .tc .vmem S256x64 .f32) (h7 : a7.IsWhole) (a8 : Memref sig .tc .vmem S256x1 .i32) (h8 : a8.IsWhole)
    (hc : cond0_0 i) (x0 : Vec F S256x512 .f32) (x1 : Vec F S6x512 .f32) (x2 : Vec F S64x512 .f32)
    (x3 x4 : Vec F S16x512x64 .f32) :
    sout0_A_0 c i a1 h1 a2 h2 a3 h3 a4 h4 a5 h5 a6 h6 a7 h7 a8 h8 hc x0 x1 x2 x3 x4 = k0_pay6 x0 x2 := by
  unfold sout0_A_0
  rw [View.read_writes_eq_canon _ _ _ (scover0_A_0 c i a1 h1 a2 h2 a3 h3 a4 h4 a5 h5 a6 h6 a7 h7 a8 h8 hc x0 x1 x2 x3 x4)]
  unfold kernelRun0_A
  dsimp only
  sl_unfold_words
  rw [View.canon_unit_zero (S := S256x64) hz]
  simp only [View.readAt_eq_ld, h1.read_unread, h2.read_unread, h3.read_unread, h4.read_unread, h5.read_unread, View.ld_unit_zero (S := S256x512) hz, View.ld_unit_zero (S := S6x512) hz, View.ld_unit_zero (S := S64x512) hz]

/-- The first step leaves the codes in the scratch that later steps read. -/
theorem sout_A_1 (c : Dev nD) (i : grid0.Coords)
    (a1 : Memref sig .tc .vmem S256x512 .f32) (h1 : a1.IsWhole) (a2 : Memref sig .tc .vmem S6x512 .f32) (h2 : a2.IsWhole)
    (a3 : Memref sig .tc .vmem S64x512 .f32) (h3 : a3.IsWhole) (a4 : Memref sig .tc .vmem S16x512x64 .f32) (h4 : a4.IsWhole)
    (a5 : Memref sig .tc .vmem S16x512x64 .f32) (h5 : a5.IsWhole) (a6 : Memref sig .tc .vmem S256x512 .f32) (h6 : a6.IsWhole)
    (a7 : Memref sig .tc .vmem S256x64 .f32) (h7 : a7.IsWhole) (a8 : Memref sig .tc .vmem S256x1 .i32) (h8 : a8.IsWhole)
    (hc : cond0_0 i) (x0 : Vec F S256x512 .f32) (x1 : Vec F S6x512 .f32) (x2 : Vec F S64x512 .f32)
    (x3 x4 : Vec F S16x512x64 .f32) :
    sout0_A_1 c i a1 h1 a2 h2 a3 h3 a4 h4 a5 h5 a6 h6 a7 h7 a8 h8 hc x0 x1 x2 x3 x4 = k0_pay5 x0 x1 := by
  unfold sout0_A_1
  rw [View.read_writes_eq_canon _ _ _ (scover0_A_1 c i a1 h1 a2 h2 a3 h3 a4 h4 a5 h5 a6 h6 a7 h7 a8 h8 hc x0 x1 x2 x3 x4)]
  unfold kernelRun0_A
  dsimp only
  sl_unfold_words
  rw [View.canon_unit_zero (S := S256x1) hz]
  simp only [View.readAt_eq_ld, h1.read_unread, h2.read_unread, h3.read_unread, h4.read_unread, h5.read_unread, View.ld_unit_zero (S := S256x512) hz, View.ld_unit_zero (S := S6x512) hz, View.ld_unit_zero (S := S64x512) hz]

/-- The first step leaves one step from zero. -/
theorem out_A (c : Dev nD) (i : grid0.Coords)
    (a1 : Memref sig .tc .vmem S256x512 .f32) (h1 : a1.IsWhole) (a2 : Memref sig .tc .vmem S6x512 .f32) (h2 : a2.IsWhole)
    (a3 : Memref sig .tc .vmem S64x512 .f32) (h3 : a3.IsWhole) (a4 : Memref sig .tc .vmem S16x512x64 .f32) (h4 : a4.IsWhole)
    (a5 : Memref sig .tc .vmem S16x512x64 .f32) (h5 : a5.IsWhole) (a6 : Memref sig .tc .vmem S256x512 .f32) (h6 : a6.IsWhole)
    (a7 : Memref sig .tc .vmem S256x64 .f32) (h7 : a7.IsWhole) (a8 : Memref sig .tc .vmem S256x1 .i32) (h8 : a8.IsWhole)
    (hc : cond0_0 i) (x0 : Vec F S256x512 .f32) (x1 : Vec F S6x512 .f32) (x2 : Vec F S64x512 .f32)
    (x3 x4 : Vec F S16x512x64 .f32) :
    out0_A_5 c i a1 h1 a2 h2 a3 h3 a4 h4 a5 h5 a6 h6 a7 h7 a8 h8 hc x0 x1 x2 x3 x4 = step i x3 x4 k0_pay7 (k0_pay6 x0 x2) (k0_pay5 x0 x1) := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_cons_unit_zero (S := S256x512) hz]
  rw [View.readCov_unit_zero (S := S256x512) _ hz, View.readCov_unit_zero (S := S256x64) _ hz, View.readCov_unit_zero (S := S256x1) _ hz]
  simp only [View.readAt_eq_ld, h1.read_unread, h2.read_unread, h3.read_unread, h4.read_unread, h5.read_unread, View.ld_unit_zero (S := S256x512) hz, View.ld_unit_zero (S := S6x512) hz, View.ld_unit_zero (S := S64x512) hz]
  rw [h4.read_unread, h5.read_unread, h1.read_unread, h2.read_unread, h3.read_unread, View.ld_unit_zero (S := S256x512) hz, View.ld_unit_zero (S := S6x512) hz, View.ld_unit_zero (S := S64x512) hz]
  rfl

end Cert.KernelIdeal.Own

end
-- ==== Proof.Cat.lean ====
module

public import proofs.«01_k».proof.Proof.Body
public import Idealize.ShloMosaic.Lib.Pointwise

@[expose] public section

set_option maxRecDepth 16384

noncomputable section

open Idealize.ShloMosaic Idealize.ShloMosaic.TcCoe Idealize.SL.Sem

namespace Cert.KernelIdeal.Own

open Cert.KernelIdeal Cert.KernelIdeal.Gen

/-- Sixteen 256×64 blocks side by side: column `64 · j + r` is column `r` of block `j`. -/
theorem cat256_apply {α : Type} (f : Fin 16 → S256x64.Idx → α) (n : Fin 256) (j : Fin 16) (r : Fin 64)
    (hk : 64 * j.val + r.val < 1024) :
    concatenate S256x1024 1
      [⟨S256x64, f 0⟩, ⟨S256x64, f 1⟩, ⟨S256x64, f 2⟩, ⟨S256x64, f 3⟩, ⟨S256x64, f 4⟩, ⟨S256x64, f 5⟩, ⟨S256x64, f 6⟩, ⟨S256x64, f 7⟩, ⟨S256x64, f 8⟩, ⟨S256x64, f 9⟩, ⟨S256x64, f 10⟩, ⟨S256x64, f 11⟩, ⟨S256x64, f 12⟩, ⟨S256x64, f 13⟩, ⟨S256x64, f 14⟩, ⟨S256x64, f 15⟩]
      concatenates_S256x64_S256x64_S256x64_S256x64_S256x64_S256x64_S256x64_S256x64_S256x64_S256x64_S256x64_S256x64_S256x64_S256x64_S256x64_S256x64_S256x1024_d1 (ix2 n ⟨64 * j.val + r.val, hk⟩) = f j (ix2 n r) := by
  have hr := r.isLt
  refine concatenate_ofFn_apply (t := S256x1024) (s₁ := S256x64) 1 f
    concatenates_S256x64_S256x64_S256x64_S256x64_S256x64_S256x64_S256x64_S256x64_S256x64_S256x64_S256x64_S256x64_S256x64_S256x64_S256x64_S256x64_S256x1024_d1 rfl 64 rfl _ j ?_ _ ?_ ?_
  · show (64 * j.val + r.val) / 64 = j.val; omega
  · show r.val = (64 * j.val + r.val) % 64; omega
  · intro b hb
    match b with
    | ⟨0, _⟩ => rfl
    | ⟨1, _⟩ => exact absurd rfl hb

/-- Sixteen 512×64 blocks side by side: column `64 · j + r` is column `r` of block `j`. -/
theorem cat512_apply {α : Type} (f : Fin 16 → S512x64.Idx → α) (n : Fin 512) (j : Fin 16) (r : Fin 64)
    (hk : 64 * j.val + r.val < 1024) :
    concatenate S512x1024 1
      [⟨S512x64, f 0⟩, ⟨S512x64, f 1⟩, ⟨S512x64, f 2⟩, ⟨S512x64, f 3⟩, ⟨S512x64, f 4⟩, ⟨S512x64, f 5⟩, ⟨S512x64, f 6⟩, ⟨S512x64, f 7⟩, ⟨S512x64, f 8⟩, ⟨S512x64, f 9⟩, ⟨S512x64, f 10⟩, ⟨S512x64, f 11⟩, ⟨S512x64, f 12⟩, ⟨S512x64, f 13⟩, ⟨S512x64, f 14⟩, ⟨S512x64, f 15⟩]
      concatenates_S512x64_S512x64_S512x64_S512x64_S512x64_S512x64_S512x64_S512x64_S512x64_S512x64_S512x64_S512x64_S512x64_S512x64_S512x64_S512x64_S512x1024_d1 (ix2 n ⟨64 * j.val + r.val, hk⟩) = f j (ix2 n r) := by
  have hr := r.isLt
  refine concatenate_ofFn_apply (t := S512x1024) (s₁ := S512x64) 1 f
    concatenates_S512x64_S512x64_S512x64_S512x64_S512x64_S512x64_S512x64_S512x64_S512x64_S512x64_S512x64_S512x64_S512x64_S512x64_S512x64_S512x64_S512x1024_d1 rfl 64 rfl _ j ?_ _ ?_ ?_
  · show (64 * j.val + r.val) / 64 = j.val; omega
  · show r.val = (64 * j.val + r.val) % 64; omega
  · intro b hb
    match b with
    | ⟨0, _⟩ => rfl
    | ⟨1, _⟩ => exact absurd rfl hb

end Cert.KernelIdeal.Own

end
-- ==== Proof.Code.lean ====
module

public import Idealize.ShloMosaic.Lib.Pointwise

@[expose] public section

noncomputable section

open Idealize.ShloMosaic

namespace Cert.Code

/-- The number whose binary digit `b` is `p b`. -/
def code (p : Fin 6 → Bool) : Nat := ∑ b : Fin 6, (if p b then 2 ^ b.val else 0)

/-- The number as a sum of six terms. -/
theorem code_eq (p : Fin 6 → Bool) : code p
    = (if p 0 then 1 else 0) + (if p 1 then 2 else 0) + (if p 2 then 4 else 0) + (if p 3 then 8 else 0)
      + (if p 4 then 16 else 0) + (if p 5 then 32 else 0) := by
  unfold code
  rw [Fin.sum_univ_six]
  rfl

/-- It is below 64. -/
theorem code_lt (p : Fin 6 → Bool) : code p < 64 := by
  rw [code_eq]
  cases p 0 <;> cases p 1 <;> cases p 2 <;> cases p 3 <;> cases p 4 <;> cases p 5 <;> decide

/-- Flipping every digit subtracts from 63. -/
theorem code_not (p : Fin 6 → Bool) : code (fun b => !p b) = 63 - code p := by
  rw [code_eq, code_eq]
  cases p 0 <;> cases p 1 <;> cases p 2 <;> cases p 3 <;> cases p 4 <;> cases p 5 <;> decide

/-- A sum of six words in any order. -/
theorem fold6 (f : Fin 6 → BitVec 32) : Finset.fold IntOp.addi 0#32 f Finset.univ
    = f 0 + (f 1 + (f 2 + (f 3 + (f 4 + (f 5 + 0#32))))) := rfl

/-- Bits times powers of two, summed as words, are the word of the number. -/
theorem fold_code (p : Fin 6 → Bool) (f : Fin 6 → BitVec 32)
    (hf : ∀ b, f b = if p b then BitVec.ofNat 32 (2 ^ b.val) else 0#32) :
    Finset.fold IntOp.addi 0#32 f Finset.univ = BitVec.ofNat 32 (code p) := by
  rw [fold6, code_eq]
  simp only [hf]
  cases p 0 <;> cases p 1 <;> cases p 2 <;> cases p 3 <;> cases p 4 <;> cases p 5 <;> rfl

end Cert.Code

end
-- ==== Proof.Step.lean ====
module

public import proofs.«01_k».proof.Proof.Cat
public import proofs.«01_k».proof.Proof.Code
public import Idealize.ShloMosaic.Lib.Pointwise

@[expose] public section

set_option maxRecDepth 16384

noncomputable section

open Idealize.ShloMosaic Idealize.ShloMosaic.TcCoe Idealize.SL.Sem

namespace Cert.KernelIdeal.Own

open Cert.KernelIdeal Cert.KernelIdeal.Gen

/-- A sum over 1024 columns is a sum over sixteen groups of 64. -/
theorem sum_split {M : Type} [AddCommMonoid M] (f : Fin 1024 → M) :
    ∑ k, f k = ∑ j : Fin 16, ∑ r : Fin 64, f ⟨64 * j.val + r.val, by omega⟩ := by
  rw [← Fintype.sum_prod_type' (f := fun (j : Fin 16) (r : Fin 64) => f ⟨64 * j.val + r.val, by omega⟩)]
  refine (Fintype.sum_equiv (finProdFinEquiv (m := 16) (n := 64)) _ _ fun x => ?_).symm
  congr 1
  apply Fin.ext
  show 64 * x.1.val + x.2.val = x.2.val + 64 * x.1.val
  omega

/-- The stored value of a step at an index: what was there plus the row of `A` times the row of `W`. -/
theorem pay3_apply (A : FVec Ideal S256x1024 .f32) (W : FVec Ideal S512x1024 .f32) (xo : Vec Ideal S256x512 .f32)
    (n : Fin 256) (o : Fin 512) :
    k0_pay3 A W xo (ix2 n o) = xo (ix2 n o) + ∑ k : Fin 1024, A (ix2 n k) * W (ix2 o k) := by
  pointwise [k0_pay3]

/-- The weight sum at an index. -/
theorem wsum_apply (x3 x4 : Vec Ideal S16x512x64 .f32) (j j' : Fin 16) (o : Fin 512) (r : Fin 64) :
    wsum (row x3 j) (row x4 j') (ix2 o r) = x3 (ix3 j o r) + x4 (ix3 j' o r) := by
  rw [← row_apply x3 j 0, ← row_apply x4 j' 0]
  pointwise [wsum]

/-- The masked copy at an index. -/
theorem mask_apply (i : grid0.Coords) (w : BitVec 32) (v : Vec Ideal S256x64 .f32) (q : Vec Ideal S256x1 .i32)
    (n : Fin 256) (r : Fin 64) :
    mask i w v q (ix2 n r)
      = v (ix2 n r) * (if q (ix2 n 0) = BitVec.ofNat 32 (i 0).val * 16#32 + w then 1 else 0) := by
  pointwise [mask]
  congr 1
  show FloatOps.sitofp (F := Ideal) FTy.f32 (BitVec.setWidth 32 (IntOp.cmpi .eq (q (ix2 n 0))
    (BitVec.ofNat 32 (i 0).val * 16#32 + w))) = _
  by_cases h : q (ix2 n 0) = BitVec.ofNat 32 (i 0).val * 16#32 + w
  · rw [if_pos h, h]
    simp [IntOp.cmpi, FloatOps.sitofp]
  · rw [if_neg h]
    have hb : (q (ix2 n 0) == BitVec.ofNat 32 (i 0).val * 16#32 + w) = false := beq_eq_false_iff_ne.mpr h
    simp [IntOp.cmpi, FloatOps.sitofp, hb]

/-- A step at an index: sixteen codes, 64 columns each. -/
theorem step_apply (i : grid0.Coords) (x3 x4 : Vec Ideal S16x512x64 .f32) (xo : Vec Ideal S256x512 .f32)
    (v : Vec Ideal S256x64 .f32) (q : Vec Ideal S256x1 .i32) (n : Fin 256) (o : Fin 512) :
    step i x3 x4 xo v q (ix2 n o) = xo (ix2 n o) + ∑ j : Fin 16, ∑ r : Fin 64,
      v (ix2 n r) * (if q (ix2 n 0) = BitVec.ofNat 32 (i 0).val * 16#32 + BitVec.ofNat 32 j.val then 1 else 0)
        * (x3 (ix3 j o r) + x4 (ix3 j.rev o r)) := by
  unfold step
  rw [pay3_apply, sum_split]
  congr 1
  refine Finset.sum_congr rfl fun j _ => Finset.sum_congr rfl fun r _ => ?_
  have h1 := cat256_apply (fun j : Fin 16 => mask i (BitVec.ofNat 32 j.val) v q) n j r (by omega)
  have h2 := cat512_apply (fun j : Fin 16 => wsum (row x3 j) (row x4 j.rev)) o j r (by omega)
  rw [mask_apply] at h1
  rw [wsum_apply] at h2
  rw [← h1, ← h2]
  rfl

/-- The projection at an index: the input's row times the projection's row. -/
theorem pay6_apply (x : Vec Ideal S256x512 .f32) (p : Vec Ideal S64x512 .f32) (n : Fin 256) (r : Fin 64) :
    k0_pay6 x p (ix2 n r) = ∑ c : Fin 512, x (ix2 n c) * p (ix2 r c) := by
  pointwise [k0_pay6, k0_pay4]

/-- Digit `b` of row `n`'s code: whether the row's product with `w`'s row `b` is positive. -/
def digit (x : Vec Ideal S256x512 .f32) (w : Vec Ideal S6x512 .f32) (n : Fin 256) (b : Fin 6) : Bool :=
  decide (0 < ∑ c : Fin 512, x (ix2 n c) * w (ix2 b c))

/-- The code of a row is the word of its digits' number. -/
theorem pay5_apply (x : Vec Ideal S256x512 .f32) (w : Vec Ideal S6x512 .f32) (n : Fin 256) :
    k0_pay5 x w (ix2 n 0) = BitVec.ofNat 32 (Code.code (digit x w n)) := by
  pointwise [k0_pay5, k0_pay4]
  refine Code.fold_code _ _ fun b => ?_
  unfold digit
  by_cases h : 0 < ∑ c : Fin 512, x (ix2 n c) * w (ix2 b c)
  · simp only [h, decide_true, if_true]
    fin_cases b <;> rfl
  · simp only [h, decide_false, if_false]
    fin_cases b <;> rfl

end Cert.KernelIdeal.Own

end
-- ==== Proof.Array.lean ====
module

public import proofs.«01_k».proof.Proof.Step
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.Own

open Cert.KernelIdeal Cert.KernelIdeal.Gen

variable {F : FTy → Type} [FloatOps F]
variable (m : (ℓ : Loc nD τ sig) → Buf (Elt F) ℓ) (ρ : Dev nD → PrngReg)

/-- The input as a 256×512 matrix. -/
abbrev X (c : Dev nD) : Vec F S256x512 .f32 :=
  shapeCast S256x512 (m ((c : Thread nD τ).loc main_arg0)) shapeCasts_S128x2x512_S256x512
/-- The projection as a 64×512 matrix. -/
abbrev P1 (c : Dev nD) : Vec F S64x512 .f32 :=
  shapeCast S64x512 (m ((c : Thread nD τ).loc main_arg2)) shapeCasts_S1x1x64x512_S64x512
/-- The first table as 64 matrices of 512×64. -/
abbrev T1 (c : Dev nD) : Vec F S64x512x64 .f32 :=
  shapeCast S64x512x64 (m ((c : Thread nD τ).loc main_arg5)) shapeCasts_S64x32768_S64x512x64
/-- The second table as 64 matrices of 512×64. -/
abbrev T2 (c : Dev nD) : Vec F S64x512x64 .f32 :=
  shapeCast S64x512x64 (m ((c : Thread nD τ).loc main_arg6)) shapeCasts_S64x32768_S64x512x64

/-- The region reads the input as a matrix. -/
theorem V_main_v0 (c : Dev nD) : V m c main_v0 = X m c := by
  unfold V V0 hostOps0
  simp only [List.flatten_cons, List.flatten_nil, List.append_nil]
  after_results
  rfl
/-- The region reads the projection as a matrix. -/
theorem V_main_v1 (c : Dev nD) : V m c main_v1 = P1 m c := by
  unfold V V0 hostOps0
  simp only [List.flatten_cons, List.flatten_nil, List.append_nil]
  after_results
  rfl
/-- The region reads the first table as a box. -/
theorem V_main_v2 (c : Dev nD) : V m c main_v2 = T1 m c := by
  unfold V V0 hostOps0
  simp only [List.flatten_cons, List.flatten_nil, List.append_nil]
  after_results
  rfl
/-- The region reads the second table as a box. -/
theorem V_main_v3 (c : Dev nD) : V m c main_v3 = T2 m c := by
  unfold V V0 hostOps0
  simp only [List.flatten_cons, List.flatten_nil, List.append_nil]
  after_results
  rfl

/-- Every point's first block is the whole input. -/
theorem blk_0 (c : Dev nD) (t : Fin cfg0.N) : (iblk m c 0 t : Vec F S256x512 .f32) = X m c := by
  have hi : win0_0.index t 0 = 0 ∧ win0_0.index t 1 = 0 := by
    rcases fin_N0 t with rfl | rfl | rfl | rfl <;> decide
  rw [← V_main_v0 m c]
  funext j
  unfold iblk
  rw [View.read_apply]
  show V m c main_v0 _ = V m c main_v0 j
  congr 1
  funext a
  apply Fin.ext
  match a with
  | ⟨0, _⟩ => show win0_0.index t 0 * 256 + 1 * (j 0).val = (j 0).val; rw [hi.1]; omega
  | ⟨1, _⟩ => show win0_0.index t 1 * 512 + 1 * (j 1).val = (j 1).val; rw [hi.2]; omega

/-- Every point's second block is the whole map. -/
theorem blk_1 (c : Dev nD) (t : Fin cfg0.N) : (iblk m c 1 t : Vec F S6x512 .f32) = m ((c : Thread nD τ).loc main_arg3) := by
  have hi : win0_1.index t 0 = 0 ∧ win0_1.index t 1 = 0 := by
    rcases fin_N0 t with rfl | rfl | rfl | rfl <;> decide
  rw [← V_main_arg3 m c]
  funext j
  unfold iblk
  rw [View.read_apply]
  show V m c main_arg3 _ = V m c main_arg3 j
  congr 1
  funext a
  apply Fin.ext
  match a with
  | ⟨0, _⟩ => show win0_1.index t 0 * 6 + 1 * (j 0).val = (j 0).val; rw [hi.1]; omega
  | ⟨1, _⟩ => show win0_1.index t 1 * 512 + 1 * (j 1).val = (j 1).val; rw [hi.2]; omega

/-- Every point's third block is the whole projection. -/
theorem blk_2 (c : Dev nD) (t : Fin cfg0.N) : (iblk m c 2 t : Vec F S64x512 .f32) = P1 m c := by
  have hi : win0_2.index t 0 = 0 ∧ win0_2.index t 1 = 0 := by
    rcases fin_N0 t with rfl | rfl | rfl | rfl <;> decide
  rw [← V_main_v1 m c]
  funext j
  unfold iblk
  rw [View.read_apply]
  show V m c main_v1 _ = V m c main_v1 j
  congr 1
  funext a
  apply Fin.ext
  match a with
  | ⟨0, _⟩ => show win0_2.index t 0 * 64 + 1 * (j 0).val = (j 0).val; rw [hi.1]; omega
  | ⟨1, _⟩ => show win0_2.index t 1 * 512 + 1 * (j 1).val = (j 1).val; rw [hi.2]; omega

/-- Matrix `j` of point `t`'s block of the first table is the table's matrix `16 t + j`. -/
theorem blk_3 (c : Dev nD) (t : Fin cfg0.N) (j : Fin 16) (o : Fin 512) (r : Fin 64) (k : Fin 64)
    (hk : k.val = 16 * t.val + j.val) : (iblk m c 3 t : Vec F S16x512x64 .f32) (ix3 j o r) = T1 m c (ix3 k o r) := by
  have hi : win0_3.index t 0 = t.val ∧ win0_3.index t 1 = 0 ∧ win0_3.index t 2 = 0 := by
    rcases fin_N0 t with rfl | rfl | rfl | rfl <;> decide
  rw [← V_main_v2 m c]
  unfold iblk
  rw [View.read_apply]
  show V m c main_v2 _ = V m c main_v2 _
  congr 1
  funext a
  apply Fin.ext
  match a with
  | ⟨0, _⟩ => show win0_3.index t 0 * 16 + 1 * j.val = k.val; rw [hi.1]; omega
  | ⟨1, _⟩ => show win0_3.index t 1 * 512 + 1 * o.val = o.val; rw [hi.2.1]; omega
  | ⟨2, _⟩ => show win0_3.index t 2 * 64 + 1 * r.val = r.val; rw [hi.2.2]; omega

/-- Matrix `15 - j` of point `t`'s block of the second table is the table's matrix `63 - (16 t + j)`. -/
theorem blk_4 (c : Dev nD) (t : Fin cfg0.N) (j : Fin 16) (o : Fin 512) (r : Fin 64) (k : Fin 64)
    (hk : k.val = 16 * t.val + j.val) :
    (iblk m c 4 t : Vec F S16x512x64 .f32) (ix3 j.rev o r) = T2 m c (ix3 k.rev o r) := by
  have hi : win0_4.index t 0 = 3 - t.val ∧ win0_4.index t 1 = 0 ∧ win0_4.index t 2 = 0 := by
    rcases fin_N0 t with rfl | rfl | rfl | rfl <;> decide
  have ht : t.val < 4 := lt_of_lt_of_eq t.isLt N_0
  rw [← V_main_v3 m c]
  unfold iblk
  rw [View.read_apply]
  show V m c main_v3 _ = V m c main_v3 _
  congr 1
  funext a
  apply Fin.ext
  have h1 : j.rev.val = 16 - (j.val + 1) := Fin.val_rev j
  have h2 : k.rev.val = 64 - (k.val + 1) := Fin.val_rev k
  match a with
  | ⟨0, _⟩ => show win0_4.index t 0 * 16 + 1 * j.rev.val = k.rev.val; rw [hi.1]; omega
  | ⟨1, _⟩ => show win0_4.index t 1 * 512 + 1 * o.val = o.val; rw [hi.2.1]; omega
  | ⟨2, _⟩ => show win0_4.index t 2 * 64 + 1 * r.val = r.val; rw [hi.2.2]; omega

/-- The running sum after point `n`. -/
def chain (c : Dev nD) : (n : ℕ) → n < cfg0.N → Vec F S256x512 .f32
  | 0, h => step (grid0.coords ⟨0, h⟩) (iblk m c 3 ⟨0, h⟩) (iblk m c 4 ⟨0, h⟩) k0_pay7
      (k0_pay6 (X m c) (P1 m c)) (k0_pay5 (X m c) (m ((c : Thread nD τ).loc main_arg3)))
  | n + 1, h => step (grid0.coords ⟨n + 1, h⟩) (iblk m c 3 ⟨n + 1, h⟩) (iblk m c 4 ⟨n + 1, h⟩)
      (chain c n (Nat.lt_of_succ_lt h))
      (k0_pay6 (X m c) (P1 m c)) (k0_pay5 (X m c) (m ((c : Thread nD τ).loc main_arg3)))

/-- After point `n` the output block holds the running sum, and the scratches hold the projection and the codes. -/
theorem outsAt_eq (c : Dev nD) : ∀ (n : ℕ) (h : n < cfg0.N), outsAt0 m c n h
    = (chain m c n h, k0_pay6 (X m c) (P1 m c), k0_pay5 (X m c) (m ((c : Thread nD τ).loc main_arg3)))
  | 0, h => by
    refine (outsAt0_A m c ⟨0, h⟩ rfl).trans ?_
    rw [out_A, sout_A_0, sout_A_1, blk_0, blk_1, blk_2]
    rfl
  | n + 1, h => by
    have hN : cfg0.N = 4 := N_0
    have hB : ¬(⟨n + 1, h⟩ : Fin cfg0.N).val % 4 = 0 := by dsimp only; omega
    refine (outsAt0_B m c ⟨n + 1, h⟩ hB).trans ?_
    rw [out_B]
    unfold sout0_B_0 sout0_B_1
    show (step _ _ _ (outsAt0 m c n _).1 (outsAt0 m c n _).2.1 (outsAt0 m c n _).2.2, (outsAt0 m c n _).2.1, (outsAt0 m c n _).2.2) = _
    rw [outsAt_eq c n]
    rfl

/-- The result array: the running sum after the last point. -/
abbrev result (c : Dev nD) : Buf (Elt F) ((c : Thread nD τ).loc main_v4) :=
  chain m c 3 (by rw [show cfg0.N = 4 from N_0]; decide)

/-- The one write-back carries the result array. -/
theorem flushed_eq (c : Dev nD) (t : Fin cfg0.N) (hf : (cfg0.win 5).flush t = true) :
    (dats m 0 c).flushed 5 t = ((cfg0.win 5).blk t).view.read (Elt F) (result m c) := by
  have hN : cfg0.N = 4 := N_0
  have h3 : t.val = 3 := by have := (flush0_5 t).mp hf; have := t.isLt; omega
  obtain rfl : t = t0_3 := Fin.ext h3
  show (cfg0.win 5).cut (grid0.coords t0_3) ((dats m 0 c).after 5 t0_3) = _
  rw [after0_5, outsAt_eq]
  have hz' : (fun a => win0_5.index t0_3 a * main_v4.ty.shape.size a) = fun _ => 0 := funext fun a => by fin_cases a <;> decide
  exact (Memref.read_access_unit_zero (Elt F) main_v4 hz' (fun a => by rw [congrFun hz' a]; simp) (result m c)).symm

/-- The output array ends at the result array. -/
theorem final_o (c : Dev nD) : (dats m 0 c).arrAt 5 cfg0.N = result m c :=
  (dats m 0 c).arrAt_eq_of_cover 5 (result m c) (flushed_eq m c) fun i =>
    ⟨t0_3, (flush0_5 t0_3).mpr rfl, by
      show i ∈ ((View.whole main_v4).slice (win0_5.rect t0_3)).set
      rw [View.set_slice_whole, Rect.mem_set_unit]
      intro a
      have h0 : (i 0 : Nat) < 256 := (i 0).isLt
      have h1 : (i 1 : Nat) < 512 := (i 1).isLt
      match a with
      | ⟨0, _⟩ => show win0_5.index t0_3 0 * win0_5.size 0 ≤ (i 0 : Nat) ∧ (i 0 : Nat) < win0_5.index t0_3 0 * win0_5.size 0 + win0_5.xsize (grid0.coords t0_3) 0
                  rw [show win0_5.index t0_3 0 * win0_5.size 0 = 0 from by decide +kernel, show win0_5.xsize (grid0.coords t0_3) 0 = 256 from by decide +kernel]; omega
      | ⟨1, _⟩ => show win0_5.index t0_3 1 * win0_5.size 1 ≤ (i 1 : Nat) ∧ (i 1 : Nat) < win0_5.index t0_3 1 * win0_5.size 1 + win0_5.xsize (grid0.coords t0_3) 1
                  rw [show win0_5.index t0_3 1 * win0_5.size 1 = 0 from by decide +kernel, show win0_5.xsize (grid0.coords t0_3) 1 = 512 from by decide +kernel]; omega⟩

/-- The first result is the result array reshaped. -/
theorem tail_main_v6 (c : Dev nD) : Pipeline.afterTail₀ cfgs (dats m) 0 (V0 m) [hostOps1] c main_v6
    = shapeCast S128x2x512 (result m c) shapeCasts_S256x512_S128x2x512 := by
  unfold Pipeline.afterTail₀ hostOps1
  simp only [List.flatten_cons, List.flatten_nil, List.append_nil]
  after_results
  rw [← final_o]
  have h := Pipeline.withArrays_arr (cfgs 0).spec (by decide) c (V0 m c)
    (fun w => (dats m 0 c).arrAt w (cfgs 0).N) 5
  exact congrArg (fun A => shapeCast S128x2x512 (A : Vec F S256x512 .f32) shapeCasts_S256x512_S128x2x512) h

/-- The second result is the zero vector of one element. -/
theorem tail_main_v5 (c : Dev nD) : Pipeline.afterTail₀ cfgs (dats m) 0 (V0 m) [hostOps1] c main_v5
    = broadcastInDim S1 ![] bcast_S_S1 (constant S_ .f32 0x00000000#32) := by
  unfold Pipeline.afterTail₀ hostOps1
  simp only [List.flatten_cons, List.flatten_nil, List.append_nil]
  after_results

/-- What a run leaves in the two results. -/
theorem run : θ_run defs (onTc (τ := τ) (main (F := F))) ⟨m, fun _ => 0, ρ⟩ fun r => ∀ c : Dev nD,
      r.2.mem ((c : Thread nD τ).loc main_v6) = shapeCast S128x2x512 (result m c) shapeCasts_S256x512_S128x2x512
      ∧ r.2.mem ((c : Thread nD τ).loc main_v5) = broadcastInDim S1 ![] bcast_S_S1 (constant S_ .f32 0x00000000#32) :=
  (θ_run defs _ _).mono (fun r h c =>
    ⟨((h c).2 main_v6 (Pipeline.mem_restRefs_of main_v6 (by decide) (by decide))).trans (tail_main_v6 m c),
     ((h c).2 main_v5 (Pipeline.mem_restRefs_of main_v5 (by decide) (by decide))).trans (tail_main_v5 m c)⟩)
    (run_main m ρ)

end Cert.KernelIdeal.Own

end
-- ==== Proof.Closed.lean ====
module

public import proofs.«01_k».proof.Proof.Array

@[expose] public section

set_option maxRecDepth 16384

noncomputable section

open Idealize.ShloMosaic Idealize.ShloMosaic.TcCoe Idealize.SL.Sem

namespace Cert.KernelIdeal.Own

open Cert.KernelIdeal Cert.KernelIdeal.Gen

variable (m : (ℓ : Loc nD τ sig) → Buf (Elt Ideal) ℓ)

/-- The code of row `n`. -/
def rowCode (c : Dev nD) (n : Fin 256) : Fin 64 :=
  ⟨Code.code (digit (X m c) (m ((c : Thread nD τ).loc main_arg3)) n), Code.code_lt _⟩

/-- What the weights of code `e` give for row `n` and output column `o`. -/
def part (c : Dev nD) (n : Fin 256) (o : Fin 512) (e : Fin 64) : EReal :=
  ∑ r : Fin 64, (∑ k : Fin 512, X m c (ix2 n k) * P1 m c (ix2 r k)) * (T1 m c (ix3 e o r) + T2 m c (ix3 e.rev o r))

/-- The grid coordinate of a point is its number. -/
theorem coord_val (t : Fin cfg0.N) : (grid0.coords t 0).val = t.val := by
  rcases fin_N0 t with rfl | rfl | rfl | rfl <;> decide

/-- The word comparison of the mask compares numbers. -/
theorem word_eq (e t j : Nat) (he : e < 64) (ht : t < 4) (hj : j < 16) :
    (BitVec.ofNat 32 e = BitVec.ofNat 32 t * 16#32 + BitVec.ofNat 32 j) ↔ e = 16 * t + j := by
  rw [← BitVec.toNat_inj]
  simp only [BitVec.toNat_ofNat, BitVec.toNat_add, BitVec.toNat_mul]
  omega

/-- A step adds the row's own part where the row's code lies among the step's sixteen, and nothing elsewhere. -/
theorem step_part (c : Dev nD) (t : Fin cfg0.N) (xo : Vec Ideal S256x512 .f32) (n : Fin 256) (o : Fin 512) :
    step (grid0.coords t) (iblk m c 3 t) (iblk m c 4 t) xo (k0_pay6 (X m c) (P1 m c))
        (k0_pay5 (X m c) (m ((c : Thread nD τ).loc main_arg3))) (ix2 n o)
      = xo (ix2 n o) + (if (rowCode m c n).val / 16 = t.val then part m c n o (rowCode m c n) else 0) := by
  have ht : t.val < 4 := lt_of_lt_of_eq t.isLt N_0
  have hq := (rowCode m c n).isLt
  rw [step_apply]
  congr 1
  have hterm : ∀ (x3 x4 : Vec Ideal S16x512x64 .f32)
      (_ : x3 = iblk m c 3 t) (_ : x4 = iblk m c 4 t) (j : Fin 16), (∑ r : Fin 64,
      k0_pay6 (X m c) (P1 m c) (ix2 n r)
        * (if k0_pay5 (X m c) (m ((c : Thread nD τ).loc main_arg3)) (ix2 n 0)
            = BitVec.ofNat 32 (grid0.coords t 0).val * 16#32 + BitVec.ofNat 32 j.val then (1 : EReal) else 0)
        * (x3 (ix3 j o r) + x4 (ix3 j.rev o r)))
      = if (rowCode m c n).val = 16 * t.val + j.val then part m c n o (rowCode m c n) else 0 := by
    intro x3 x4 h3 h4 j
    have hw : (k0_pay5 (X m c) (m ((c : Thread nD τ).loc main_arg3)) (ix2 n 0)
            = BitVec.ofNat 32 (grid0.coords t 0).val * 16#32 + BitVec.ofNat 32 j.val)
          ↔ (rowCode m c n).val = 16 * t.val + j.val := by
      rw [pay5_apply, coord_val]
      exact word_eq _ _ _ hq ht j.isLt
    by_cases h : (rowCode m c n).val = 16 * t.val + j.val
    · rw [if_pos h]
      unfold part
      refine Finset.sum_congr rfl fun r _ => ?_
      rw [if_pos (hw.mpr h), pay6_apply, mul_one, h3, h4, blk_3 m c t j o r _ h, blk_4 m c t j o r _ h]
    · rw [if_neg h]
      refine Finset.sum_eq_zero fun r _ => ?_
      rw [if_neg (fun hh => h (hw.mp hh)), mul_zero, zero_mul]
  rw [Finset.sum_congr rfl fun j _ => hterm _ _ rfl rfl j]
  by_cases h : (rowCode m c n).val / 16 = t.val
  · rw [if_pos h]
    rw [Finset.sum_eq_single (⟨(rowCode m c n).val % 16, Nat.mod_lt _ (by decide)⟩ : Fin 16)]
    · rw [if_pos]
      show (rowCode m c n).val = 16 * t.val + (rowCode m c n).val % 16
      omega
    · intro j _ hj
      rw [if_neg]
      intro hh
      exact hj (Fin.ext (show j.val = (rowCode m c n).val % 16 by have := j.isLt; omega))
    · intro hh
      exact absurd (Finset.mem_univ _) hh
  · rw [if_neg h]
    refine Finset.sum_eq_zero fun j _ => ?_
    rw [if_neg]
    intro hh
    have := j.isLt
    omega

/-- The running sum after point `t`: the row's part once its code has been passed, zero before. -/
theorem chain_part (c : Dev nD) (n : Fin 256) (o : Fin 512) : ∀ (t : ℕ) (h : t < cfg0.N),
    chain m c t h (ix2 n o) = if (rowCode m c n).val / 16 ≤ t then part m c n o (rowCode m c n) else 0
  | 0, h => by
    unfold chain
    rw [step_part]
    have h7 : (k0_pay7 : FVec Ideal S256x512 .f32) (ix2 n o) = 0 := by
      pointwise [k0_pay7]
    rw [h7, zero_add]
    simp only [Nat.le_zero]
  | t + 1, h => by
    unfold chain
    rw [step_part, chain_part c n o t]
    by_cases h1 : (rowCode m c n).val / 16 ≤ t
    · rw [if_pos h1, if_neg (by dsimp only; omega), if_pos (by omega), add_zero]
    · rw [if_neg h1, zero_add]
      by_cases h2 : (rowCode m c n).val / 16 = t + 1
      · rw [if_pos h2, if_pos (by omega)]
      · rw [if_neg h2, if_neg (by omega)]

/-- The kernel's result array: each row's own part. -/
theorem result_apply (c : Dev nD) (n : Fin 256) (o : Fin 512) :
    (result m c : Vec Ideal S256x512 .f32) (ix2 n o) = part m c n o (rowCode m c n) := by
  show chain m c 3 _ (ix2 n o) = _
  rw [chain_part, if_pos]
  have := (rowCode m c n).isLt
  omega

end Cert.KernelIdeal.Own

end
-- ==== Proof.Sigmoid.lean ====
module

public import Idealize.ShloMosaic.PureOps.Ideal
public import Mathlib.Data.EReal.Inv
public import Mathlib.Analysis.SpecialFunctions.Exp
public import Mathlib.Tactic.Linarith
public import Mathlib.Tactic.Positivity
public import Mathlib.Tactic.NormNum

@[expose] public section

noncomputable section

open Idealize.ShloMosaic

namespace Cert.Sigmoid

/-- The logistic function of an extended real is a real number. It exceeds one half exactly at the positive ones. -/
theorem logistic (k : EReal) : ∃ s : ℝ, Ideal.div 1 (1 + Ideal.exp (-k)) = (s : EReal) ∧ (1 / 2 < s ↔ 0 < k) := by
  induction k using EReal.rec with
  | bot =>
    refine ⟨0, ?_, ?_⟩
    · rw [EReal.neg_bot]
      show Ideal.div 1 (((1 : ℝ) : EReal) + ⊤) = _
      rw [EReal.coe_add_top, Ideal.div, if_neg (by simp), EReal.inv_top, mul_zero, EReal.coe_zero]
    · constructor
      · intro h; norm_num at h
      · intro h; simp at h
  | top =>
    refine ⟨1, ?_, ?_⟩
    · rw [EReal.neg_top]
      show Ideal.div 1 (1 + 0) = _
      rw [Ideal.div, if_neg (by simp)]
      simp
    · constructor
      · intro _; simp
      · intro _; norm_num
  | coe r =>
    refine ⟨(1 + Real.exp (-r))⁻¹, ?_, ?_⟩
    · show Ideal.div 1 (1 + ((Real.exp (-r) : ℝ) : EReal)) = _
      have h1 : (1 : EReal) + ((Real.exp (-r) : ℝ) : EReal) = ((1 + Real.exp (-r) : ℝ) : EReal) := by
        rw [EReal.coe_add, EReal.coe_one]
      have hp := Real.exp_pos (-r)
      rw [h1, Ideal.div, if_neg (by rw [← EReal.coe_zero, EReal.coe_eq_coe_iff]; positivity), one_mul, EReal.coe_inv]
    · have hp := Real.exp_pos (-r)
      rw [EReal.coe_pos, one_div, inv_lt_inv₀ (by norm_num) (by positivity)]
      constructor
      · intro h
        have h1 : Real.exp (-r) < 1 := by linarith
        rw [Real.exp_lt_one_iff] at h1
        linarith
      · intro h
        have h1 : Real.exp (-r) < 1 := by rw [Real.exp_lt_one_iff]; linarith
        linarith

/-- The stretched, clipped logistic function exceeds one half exactly at the positive numbers. -/
theorem gate (k : EReal) :
    ((1 / 2 : ℝ) : EReal) < min 1 (max 0 (Ideal.div (((12 : ℝ) : EReal) * Ideal.div 1 (1 + Ideal.exp (-k)) - 1) ((10 : ℝ) : EReal)))
      ↔ 0 < k := by
  obtain ⟨s, hs, hk⟩ := logistic k
  rw [hs, ← hk]
  have hd : Ideal.div (((12 : ℝ) : EReal) * (s : EReal) - 1) ((10 : ℝ) : EReal) = (((12 * s - 1) / 10 : ℝ) : EReal) := by
    rw [Ideal.div, if_neg (by rw [← EReal.coe_zero, EReal.coe_eq_coe_iff]; norm_num), ← EReal.coe_mul, ← EReal.coe_one,
      ← EReal.coe_sub, ← EReal.coe_inv, ← EReal.coe_mul, div_eq_mul_inv]
  rw [hd, lt_min_iff, lt_max_iff, ← EReal.coe_one, ← EReal.coe_zero, EReal.coe_lt_coe_iff, EReal.coe_lt_coe_iff, EReal.coe_lt_coe_iff]
  constructor
  · rintro ⟨_, h | h⟩
    · norm_num at h
    · linarith
  · intro h
    exact ⟨by norm_num, Or.inr (by linarith)⟩

end Cert.Sigmoid

end
-- ==== Proof.Ref.lean ====
module

public import proofs.«01_k».proof.Proof.Gen.ReferenceIdeal.Run
public import proofs.«01_k».proof.Proof.Code
public import proofs.«01_k».proof.Proof.Sigmoid
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.Own

open Cert.ReferenceIdeal Cert.ReferenceIdeal.Gen Cert.ReferenceIdeal.Value

/-- Argument 0 as a function of its index. -/
abbrev a0 (V0 : Valuation τ sig (Elt Ideal)) : S128x2x512.Idx → EReal := V0 (Proc.devRef .tc main_arg0)

/-- Argument 2 as a function of its index. -/
abbrev a2 (V0 : Valuation τ sig (Elt Ideal)) : S1x1x64x512.Idx → EReal := V0 (Proc.devRef .tc main_arg2)

/-- Argument 3 as a function of its index. -/
abbrev a3 (V0 : Valuation τ sig (Elt Ideal)) : S6x512.Idx → EReal := V0 (Proc.devRef .tc main_arg3)

/-- Argument 4 as a function of its index. -/
abbrev a4 (V0 : Valuation τ sig (Elt Ideal)) : S6.Idx → EReal := V0 (Proc.devRef .tc main_arg4)

/-- Argument 5 as a function of its index. -/
abbrev a5 (V0 : Valuation τ sig (Elt Ideal)) : S64x32768.Idx → EReal := V0 (Proc.devRef .tc main_arg5)

/-- Argument 6 as a function of its index. -/
abbrev a6 (V0 : Valuation τ sig (Elt Ideal)) : S64x32768.Idx → EReal := V0 (Proc.devRef .tc main_arg6)

/-- Argument 7 as a function of its index. -/
abbrev a7 (V0 : Valuation τ sig (Elt Ideal)) : S512x512.Idx → EReal := V0 (Proc.devRef .tc main_arg7)

/-- Argument 8 as a function of its index. -/
abbrev a8 (V0 : Valuation τ sig (Elt Ideal)) : S512.Idx → EReal := V0 (Proc.devRef .tc main_arg8)

/-- The powers of two that weigh the code's digits. -/
theorem powers_apply (V0 : Valuation τ sig (Elt Ideal)) (b : Fin 6) :
    (res_main_v73 V0 : IVec S6 32) (ix1 b) = BitVec.ofNat 32 (2 ^ b.val) := by
  unfold res_main_v73 res_main_v68 res_main_v66 res_main_v65 res_main_v60 res_main_v58 res_main_v57 res_main_v52 res_main_v50
    res_main_v49 res_main_v44 res_main_v42 res_main_v41 res_main_v36 res_main_v34 res_main_v33 res_main_v28 res_main_v22
  clean_types
  pointwise
  fin_cases b <;> rfl

/-- Taking rows of a 64-row table: where the word is a number below 64, the row it names. -/
theorem gather_row {α : Type} (x : S64x32768.Idx → α) (idx : IVec S256x1 32) (n : Fin 256) (k : Fin 32768) (e : Fin 64)
    (he : idx (ix2 n 0) = BitVec.ofNat 32 e.val) :
    Host.gather gather_S64x32768_S256x1_S256x32768_1_0_n_n_0_1_132768 x idx (ix2 n k) = x (ix2 e k) := by
  unfold Host.gather
  congr 1
  funext a
  fin_cases a
  · apply Fin.ext
    have h1 : GatherDims.siIdx gather_S64x32768_S256x1_S256x32768_1_0_n_n_0_1_132768 (ix2 n k) ⟨0, by decide⟩ = ix2 n 0 := by
      funext b
      fin_cases b <;> rfl
    show min (idx (GatherDims.siIdx gather_S64x32768_S256x1_S256x32768_1_0_n_n_0_1_132768 (ix2 n k) ⟨0, _⟩)).toInt.toNat 63 = e.val
    rw [h1, he]
    have := e.isLt
    rw [BitVec.toInt_eq_toNat_cond]
    simp only [BitVec.toNat_ofNat]
    omega
  · apply Fin.ext
    show 0 + 0 + k.val = k.val
    omega

/-- The row numbers as they reach the table: wrapping a negative number changes none that lies in range. -/
theorem wrapped_apply (u : IVec S256 32) (n : Fin 256) (e : Fin 64) (he : u (ix1 n) = BitVec.ofNat 32 e.val) :
    broadcastInDim S256x1 ![0] bcast_S256_S256x1_0
        (select (cmpi .slt u (broadcastInDim S256 ![] bcast_S_S256 (constantI S_ 32 0#32)))
          (addi u (broadcastInDim S256 ![] bcast_S_S256 (constantI S_ 32 64#32))) u) (ix2 n 0)
      = BitVec.ofNat 32 e.val := by
  pointwise
  rw [he]
  fin_cases e <;> rfl

/-- Digit `b` of row `n`: whether the row's product with map row `b` is positive. -/
def bit (V0 : Valuation τ sig (Elt Ideal)) (n : Fin 256) (b : Fin 6) : Bool :=
  decide (0 < ∑ x : Fin 512, a0 V0
      (ix3 (⟨n.val / 2, by omega⟩ : Fin 128) (⟨n.val % 2, by omega⟩ : Fin 2) x)
    * a3 V0 (ix2 b x))

/-- The code of row `n`. -/
def rowCode (V0 : Valuation τ sig (Elt Ideal)) (n : Fin 256) : Fin 64 := ⟨Code.code (bit V0 n), Code.code_lt _⟩

/-- The reference's digit is one where the row's product with the map's row is positive, and zero elsewhere. -/
theorem bit_apply (V0 : Valuation τ sig (Elt Ideal))
    (h4 : ∀ b : Fin 6, a4 V0 (ix1 b) = (0 : EReal)) (n : Fin 256) (b : Fin 6) :
    (res_main_v21 V0 : Vec Ideal S256x6 .f32) (ix2 n b) = if bit V0 n b = true then (1 : EReal) else 0 := by
  unfold res_main_v21
  clean_types
  pointwise
  have hz := h4 b
  unfold a4 at hz
  rw [hz, add_zero]
  have c1 : id (constant (F := Ideal) S_ FTy.f32 1065353216#32) ix0 = (1 : EReal) := Ideal.ofBits_one_f32
  have c0 : id (constant (F := Ideal) S_ FTy.f32 0#32) ix0 = (0 : EReal) := Ideal.ofBits_zero_f32
  have ch : Ideal.ofBits FTy.f32 1056964608#32 = ((1 / 2 : ℝ) : EReal) := by
    simp [Ideal.ofBits, Ideal.ieee, -EReal.coe_mul]; norm_num
  have c12 : Ideal.ofBits FTy.f32 1094713344#32 = ((12 : ℝ) : EReal) := by
    simp [Ideal.ofBits, Ideal.ieee, -EReal.coe_mul]; norm_num
  have c10 : Ideal.ofBits FTy.f32 1092616192#32 = ((10 : ℝ) : EReal) := by
    simp [Ideal.ofBits, Ideal.ieee, -EReal.coe_mul]; norm_num
  rw [c1, c0, ch, c12, c10]
  simp only [Sigmoid.gate]
  unfold bit
  by_cases h : (0 : EReal) < ∑ x : Fin 512, a0 V0
      (ix3 (⟨n.val / 2, by omega⟩ : Fin 128) (⟨n.val % 2, by omega⟩ : Fin 2) x)
    * a3 V0 (ix2 b x)
  · rw [decide_eq_true h]
    show ((((1 : ℕ) : ℝ)) : EReal) = _
    simp
  · rw [decide_eq_false h]
    show ((((0 : ℕ) : ℝ)) : EReal) = _
    simp

/-- One as a word. -/
theorem toInt_one : (FloatOps.fptosi 32 (1 : Ideal .f32) : BitVec 32) = 1#32 := by
  show Ideal.fptosi 32 (1 : EReal) = _
  rw [← EReal.coe_one, Ideal.fptosi, Ideal.toIntClamped_coe]
  norm_num

/-- Zero as a word. -/
theorem toInt_zero : (FloatOps.fptosi 32 (0 : Ideal .f32) : BitVec 32) = 0#32 := by
  show Ideal.fptosi 32 (0 : EReal) = _
  rw [← EReal.coe_zero, Ideal.fptosi, Ideal.toIntClamped_coe]
  norm_num

/-- The first table's row number is the row's code. -/
theorem first_apply (V0 : Valuation τ sig (Elt Ideal))
    (h4 : ∀ b : Fin 6, a4 V0 (ix1 b) = (0 : EReal)) (n : Fin 256) :
    (res_main_v81 V0 : IVec S256 32) (ix1 n) = BitVec.ofNat 32 (rowCode V0 n).val := by
  unfold res_main_v81
  clean_types
  pointwise
  refine Code.fold_code (bit V0 n) _ fun b => ?_
  have hb := bit_apply V0 h4 n b
  rw [powers_apply]
  by_cases h : bit V0 n b = true
  · rw [if_pos h] at hb ⊢
    rw [hb, toInt_one]
    fin_cases b <;> rfl
  · rw [if_neg h] at hb ⊢
    rw [hb, toInt_zero]
    fin_cases b <;> rfl

/-- The second table's row number is the code of the complemented digits: the code's distance from 63. -/
theorem second_apply (V0 : Valuation τ sig (Elt Ideal))
    (h4 : ∀ b : Fin 6, a4 V0 (ix1 b) = (0 : EReal)) (n : Fin 256) :
    (res_main_v88 V0 : IVec S256 32) (ix1 n) = BitVec.ofNat 32 (rowCode V0 n).rev.val := by
  have hrev : (rowCode V0 n).rev.val = Code.code fun b => !bit V0 n b := by
    rw [Code.code_not, Fin.val_rev]
    show 64 - (Code.code (bit V0 n) + 1) = 63 - Code.code (bit V0 n)
    omega
  rw [hrev]
  unfold res_main_v88
  clean_types
  pointwise
  refine Code.fold_code (fun b => !bit V0 n b) _ fun b => ?_
  have hb := bit_apply V0 h4 n b
  rw [powers_apply]
  by_cases h : bit V0 n b = true
  · rw [if_pos h] at hb
    have h1 : (1 : EReal) - 1 = 0 := by rw [← EReal.coe_one, ← EReal.coe_sub, sub_self, EReal.coe_zero]
    rw [hb, h1, toInt_zero, h]
    fin_cases b <;> rfl
  · rw [if_neg h] at hb
    rw [hb, sub_zero, toInt_one, Bool.not_eq_true _ |>.mp h]
    fin_cases b <;> rfl

/-- The reference's first result at a position: the row of weights its code selects, times the projection and the input. -/
theorem value_apply (V0 : Valuation τ sig (Elt Ideal))
    (h4 : ∀ b : Fin 6, a4 V0 (ix1 b) = (0 : EReal))
    (h7 : ∀ o x : Fin 512, a7 V0 (ix2 o x) = (0 : EReal))
    (h8 : ∀ o : Fin 512, a8 V0 (ix1 o) = (0 : EReal))
    (a : Fin 128) (b : Fin 2) (o : Fin 512) :
    (val3 V0 (Proc.devRef .tc main_v115) : S128x2x512.Idx → EReal) (ix3 a b o)
      = ∑ x : Fin 512, (∑ r : Fin 64,
          (a5 V0
              (ix2 (rowCode V0 ⟨a.val * 2 + b.val, by omega⟩) (⟨o.val * 64 + r.val, by omega⟩ : Fin 32768))
            + a6 V0
              (ix2 (rowCode V0 ⟨a.val * 2 + b.val, by omega⟩).rev (⟨o.val * 64 + r.val, by omega⟩ : Fin 32768)))
          * a2 V0 (ix4 0 0 r x))
        * a0 V0 (ix3 a b x) := by
  rw [val3_main_v115]
  clean_types
  pointwise
  have h0 : ∑ x : Fin 512, a0 V0 (ix3 a b x)
      * a7 V0 (ix2 o x) = 0 :=
    Finset.sum_eq_zero fun x _ => by rw [h7, mul_zero]
  have hz := h8 o
  unfold a8 at hz
  unfold a0 a7 at h0
  rw [h0, hz, add_zero, add_zero]
  refine Finset.sum_congr rfl fun x _ => ?_
  congr 1
  refine Finset.sum_congr rfl fun r _ => ?_
  rw [gather_row _ _ _ _ _ (wrapped_apply _ _ _ (first_apply V0 h4 _)),
    gather_row _ _ _ _ _ (wrapped_apply _ _ _ (second_apply V0 h4 _))]

end Cert.ReferenceIdeal.Own

end
-- ==== Proof.Equation.lean ====
module

public import Mathlib.Data.EReal.Operations
public import Mathlib.Algebra.BigOperators.Ring.Finset
public import Mathlib.Tactic.Ring
public import Idealize.ShloMosaic.PureOps.Ideal

@[expose] public section

noncomputable section

namespace Cert.Equation

/-- A finite sum of reals, read as an extended real. -/
theorem coe_sum {n : ℕ} (f : Fin n → ℝ) : ((∑ i, f i : ℝ) : EReal) = ∑ i, (f i : EReal) :=
  map_sum (⟨⟨fun r : ℝ => (r : EReal), EReal.coe_zero⟩, EReal.coe_add⟩ : ℝ →+ EReal) f Finset.univ

/-- Applying the projection to the input first or to the weights first gives the same, when every entry is a real number. -/
theorem swap {n k : ℕ} (x : Fin n → EReal) (w v : Fin k → EReal) (p : Fin k → Fin n → EReal)
    (hx : ∀ i, ∃ r : ℝ, x i = r) (hw : ∀ j, ∃ r : ℝ, w j = r) (hv : ∀ j, ∃ r : ℝ, v j = r)
    (hp : ∀ j i, ∃ r : ℝ, p j i = r) :
    ∑ j, (∑ i, x i * p j i) * (w j + v j) = ∑ i, (∑ j, (w j + v j) * p j i) * x i := by
  choose x' hx using hx
  choose w' hw using hw
  choose v' hv using hv
  choose p' hp using hp
  simp only [hx, hw, hv, hp, ← EReal.coe_mul, ← EReal.coe_add, ← coe_sum]
  congr 1
  simp only [Finset.sum_mul]
  rw [Finset.sum_comm]
  refine Finset.sum_congr rfl fun i _ => Finset.sum_congr rfl fun j _ => ?_
  ring

end Cert.Equation

end
-- ==== Proof.Value.lean ====
module

public import proofs.«01_k».proof.Proof.Closed
public import proofs.«01_k».proof.Proof.Ref
public import proofs.«01_k».proof.Proof.Equation

@[expose] public section

set_option maxRecDepth 16384

noncomputable section

open Idealize.ShloMosaic Idealize.ShloMosaic.TcCoe Idealize.SL.Sem

namespace Cert.KernelIdeal.Own

open Cert.KernelIdeal Cert.KernelIdeal.Gen

variable (m : (ℓ : Loc nD τ sig) → Buf (Elt Ideal) ℓ)

/-- The kernel's argument 0 as a function of its index. -/
abbrev in0 (c : Dev nD) : S128x2x512.Idx → EReal := m ((c : Thread nD τ).loc main_arg0)
/-- The kernel's argument 2 as a function of its index. -/
abbrev in2 (c : Dev nD) : S1x1x64x512.Idx → EReal := m ((c : Thread nD τ).loc main_arg2)
/-- The kernel's argument 3 as a function of its index. -/
abbrev in3 (c : Dev nD) : S6x512.Idx → EReal := m ((c : Thread nD τ).loc main_arg3)
/-- The kernel's argument 5 as a function of its index. -/
abbrev in5 (c : Dev nD) : S64x32768.Idx → EReal := m ((c : Thread nD τ).loc main_arg5)
/-- The kernel's argument 6 as a function of its index. -/
abbrev in6 (c : Dev nD) : S64x32768.Idx → EReal := m ((c : Thread nD τ).loc main_arg6)

/-- The flat input's row `n` is the input's row `n / 2`, `n % 2`. -/
theorem X_apply (c : Dev nD) (n : Fin 256) (k : Fin 512) :
    (X m c (ix2 n k) : EReal) = in0 m c (ix3 (⟨n.val / 2, by omega⟩ : Fin 128) (⟨n.val % 2, by omega⟩ : Fin 2) k) := by
  unfold X
  clean_types
  pointwise

/-- The flat projection's entries. -/
theorem P1_apply (c : Dev nD) (r : Fin 64) (k : Fin 512) : (P1 m c (ix2 r k) : EReal) = in2 m c (ix4 0 0 r k) := by
  unfold P1
  clean_types
  pointwise

/-- The first table as a box: column `o`, `r` is column `64 o + r`. -/
theorem T1_apply (c : Dev nD) (e : Fin 64) (o : Fin 512) (r : Fin 64) :
    (T1 m c (ix3 e o r) : EReal) = in5 m c (ix2 e (⟨o.val * 64 + r.val, by omega⟩ : Fin 32768)) := by
  unfold T1
  clean_types
  pointwise

/-- The second table as a box. -/
theorem T2_apply (c : Dev nD) (e : Fin 64) (o : Fin 512) (r : Fin 64) :
    (T2 m c (ix3 e o r) : EReal) = in6 m c (ix2 e (⟨o.val * 64 + r.val, by omega⟩ : Fin 32768)) := by
  unfold T2
  clean_types
  pointwise

/-- The kernel's first result at a position is its flat result's row `2 a + b`. -/
theorem unflat_apply (y : Vec Ideal S256x512 .f32) (a : Fin 128) (b : Fin 2) (o : Fin 512) :
    shapeCast S128x2x512 y shapeCasts_S256x512_S128x2x512 (ix3 a b o) = y (ix2 (⟨a.val * 2 + b.val, by omega⟩ : Fin 256) o) := by
  pointwise

open Cert.ReferenceIdeal.Own in
/-- The kernel and the reference give a row the same code. -/
theorem code_agree (c : Dev nD) (V : Valuation Cert.ReferenceIdeal.τ Cert.ReferenceIdeal.sig (Elt Ideal))
    (e0 : a0 V = in0 m c) (e3 : a3 V = in3 m c) (n : Fin 256) : rowCode m c n = Cert.ReferenceIdeal.Own.rowCode V n := by
  apply Fin.ext
  show Code.code (digit (X m c) (m ((c : Thread nD τ).loc main_arg3)) n) = Code.code (bit V n)
  congr 1
  funext b
  unfold digit bit
  rw [e0, e3]
  have hs : (∑ k : Fin 512, (X m c (ix2 n k) : EReal) * in3 m c (ix2 b k))
      = ∑ k : Fin 512, in0 m c (ix3 (⟨n.val / 2, by omega⟩ : Fin 128) (⟨n.val % 2, by omega⟩ : Fin 2) k) * in3 m c (ix2 b k) :=
    Finset.sum_congr rfl fun k _ => congrArg (· * in3 m c (ix2 b k)) (X_apply m c n k)
  exact decide_eq_decide.mpr (iff_of_eq (congrArg (fun z : EReal => 0 < z) hs))

open Cert.ReferenceIdeal.Own in
/-- The two first results are one array, for finite operands and zero biases. -/
theorem agree (c : Dev nD) (V : Valuation Cert.ReferenceIdeal.τ Cert.ReferenceIdeal.sig (Elt Ideal))
    (e0 : a0 V = in0 m c) (e2 : a2 V = in2 m c) (e3 : a3 V = in3 m c) (e5 : a5 V = in5 m c) (e6 : a6 V = in6 m c)
    (f0 : ∀ a b k, ∃ y : ℝ, in0 m c (ix3 a b k) = y) (f2 : ∀ r k, ∃ y : ℝ, in2 m c (ix4 0 0 r k) = y)
    (f5 : ∀ e k, ∃ y : ℝ, in5 m c (ix2 e k) = y) (f6 : ∀ e k, ∃ y : ℝ, in6 m c (ix2 e k) = y)
    (h4 : ∀ b : Fin 6, a4 V (ix1 b) = 0) (h7 : ∀ o x : Fin 512, a7 V (ix2 o x) = 0) (h8 : ∀ o : Fin 512, a8 V (ix1 o) = 0) :
    (Cert.ReferenceIdeal.Value.val3 V (Proc.devRef .tc Cert.ReferenceIdeal.main_v115) : S128x2x512.Idx → EReal)
      = shapeCast S128x2x512 (result m c) shapeCasts_S256x512_S128x2x512 := by
  funext i
  obtain ⟨a, b, o, rfl⟩ : ∃ a b o, i = ix3 a b o := ⟨i 0, i 1, i 2, eq_ix3 i⟩
  refine (value_apply V h4 h7 h8 a b o).trans ?_
  refine Eq.trans ?_ (unflat_apply (result m c) a b o).symm
  refine Eq.trans ?_ (result_apply m c _ o).symm
  rw [← code_agree m c V e0 e3, e0, e2, e5, e6]
  have hd : (⟨(a.val * 2 + b.val) / 2, by omega⟩ : Fin 128) = a := Fin.ext (by show (a.val * 2 + b.val) / 2 = a.val; omega)
  have hr : (⟨(a.val * 2 + b.val) % 2, by omega⟩ : Fin 2) = b := Fin.ext (by show (a.val * 2 + b.val) % 2 = b.val; omega)
  refine (Equation.swap (fun k => in0 m c (ix3 a b k)) (fun r : Fin 64 => in5 m c (ix2 _ _)) (fun r : Fin 64 => in6 m c (ix2 _ _))
    (fun r k => in2 m c (ix4 0 0 r k)) (fun k => f0 a b k) (fun r => f5 _ _) (fun r => f6 _ _) (fun r k => f2 r k)).symm.trans ?_
  unfold part
  refine Finset.sum_congr rfl fun r _ => ?_
  refine congrArg₂ (· * ·) (Finset.sum_congr rfl fun k _ => ?_) (congrArg₂ (· + ·) (T1_apply m c _ o r).symm (T2_apply m c _ o r).symm)
  refine congrArg₂ (· * ·) ?_ (P1_apply m c r k).symm
  refine Eq.trans ?_ (X_apply m c _ k).symm
  show in0 m c (ix3 a b k) = in0 m c (ix3 (⟨(a.val * 2 + b.val) / 2, by omega⟩ : Fin 128) (⟨(a.val * 2 + b.val) % 2, by omega⟩ : Fin 2) k)
  rw [hd, hr]

end Cert.KernelIdeal.Own

end
-- ==== Proof.Pre.lean ====
module

public import proofs.«01_k».proof.Pre_finite_unbiased
public import Idealize.ShloMosaic.Lib.Decide
public import Idealize.ShloMosaic.Lib.Pointwise

@[expose] public section

set_option maxRecDepth 16384

noncomputable section

open Idealize.ShloMosaic

namespace Cert.Pre_finite_unbiased.Own

open Cert.Pre_finite_unbiased

/-- The predicate's side conditions. -/
instance facts : Facts where
  bcast_S_S128x2x512 := by decide
  bcast_S_S1x1x64x512 := by decide
  bcast_S_S64x32768 := by decide
  bcast_S_S6 := by decide
  bcast_S_S512x512 := by decide
  bcast_S_S512 := by decide

/-- An extended real whose absolute value lies below infinity is a real number. -/
theorem real_of_abs (x : EReal) (h : BitVec.ofBool (decide (max x (-x) < Ideal.ofBits .f32 0x7F800000#32)) = 1#1) :
    ∃ r : ℝ, x = r := by
  have ht : Ideal.ofBits .f32 0x7F800000#32 = ⊤ := by simp [Ideal.ofBits, Ideal.ieee]
  rw [ht] at h
  induction x using EReal.rec with
  | bot => simp at h
  | top => simp at h
  | coe r => exact ⟨r, rfl⟩

/-- Two extended reals compare equal only when they are. -/
theorem eq_of_compare (x y : EReal) (h : BitVec.ofBool (decide (x = y)) = 1#1) : x = y := by
  by_contra hne
  rw [decide_eq_false hne] at h
  exact absurd h (by decide)

variable (b0 b1 : FVec Ideal S128x2x512 .f32) (b2 : FVec Ideal S1x1x64x512 .f32) (b3 : FVec Ideal S6x512 .f32)
  (b4 : FVec Ideal S6 .f32) (b5 b6 : FVec Ideal S64x32768 .f32) (b7 : FVec Ideal S512x512 .f32) (b8 : FVec Ideal S512 .f32)

/-- The input's entries are real numbers. -/
theorem input (h : (fn b0 b1 b2 b3 b4 b5 b6 b7 b8).1 = fun _ => 1#1) (a : Fin 128) (b : Fin 2) (k : Fin 512) :
    ∃ y : ℝ, b0 (ix3 a b k) = (y : EReal) := by
  apply real_of_abs
  rw [← congrFun h (ix3 a b k)]
  symm
  pointwise [fn, fn_part1]
  rfl

/-- The projection's entries are real numbers. -/
theorem projection (h : (fn b0 b1 b2 b3 b4 b5 b6 b7 b8).2.1 = fun _ => 1#1) (r : Fin 64) (k : Fin 512) :
    ∃ y : ℝ, b2 (ix4 0 0 r k) = (y : EReal) := by
  apply real_of_abs
  rw [← congrFun h (ix4 0 0 r k)]
  symm
  pointwise [fn, fn_part1]
  rfl

/-- The first table's entries are real numbers. -/
theorem first (h : (fn b0 b1 b2 b3 b4 b5 b6 b7 b8).2.2.1 = fun _ => 1#1) (e : Fin 64) (k : Fin 32768) :
    ∃ y : ℝ, b5 (ix2 e k) = (y : EReal) := by
  apply real_of_abs
  rw [← congrFun h (ix2 e k)]
  symm
  pointwise [fn, fn_part1]
  rfl

/-- The second table's entries are real numbers. -/
theorem second (h : (fn b0 b1 b2 b3 b4 b5 b6 b7 b8).2.2.2.1 = fun _ => 1#1) (e : Fin 64) (k : Fin 32768) :
    ∃ y : ℝ, b6 (ix2 e k) = (y : EReal) := by
  apply real_of_abs
  rw [← congrFun h (ix2 e k)]
  symm
  pointwise [fn, fn_part1]
  rfl

/-- The map's bias is zero. -/
theorem map_bias (h : (fn b0 b1 b2 b3 b4 b5 b6 b7 b8).2.2.2.2.1 = fun _ => 1#1) (b : Fin 6) :
    b4 (ix1 b) = (0 : EReal) := by
  apply eq_of_compare
  rw [← congrFun h (ix1 b)]
  symm
  pointwise [fn, fn_part1]

/-- The bias matrix is zero. -/
theorem bias_matrix (h : (fn b0 b1 b2 b3 b4 b5 b6 b7 b8).2.2.2.2.2.1 = fun _ => 1#1) (o k : Fin 512) :
    b7 (ix2 o k) = (0 : EReal) := by
  apply eq_of_compare
  rw [← congrFun h (ix2 o k)]
  symm
  pointwise [fn, fn_part1]

/-- The bias vector is zero. -/
theorem bias_vector (h : (fn b0 b1 b2 b3 b4 b5 b6 b7 b8).2.2.2.2.2.2 = fun _ => 1#1) (o : Fin 512) :
    b8 (ix1 o) = (0 : EReal) := by
  apply eq_of_compare
  rw [← congrFun h (ix1 o)]
  symm
  pointwise [fn, fn_part1]

end Cert.Pre_finite_unbiased.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Pre
public import Idealize.ShloMosaic.Adequacy
public import Idealize.ShloMosaic.Init

@[expose] public section

noncomputable section

namespace Cert.Proof

open Idealize.ShloMosaic Idealize.SL.Sem

/-- The reference runs, leaves its arguments unchanged and ends with every counter at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- From memories with the same finite, unbiased arguments, the kernel and the reference leave the same two results. -/
theorem algebraic : Cert.algebraic_KernelIdeal_ReferenceIdeal_pre_finite_unbiased
    (hPre_finite_unbiased := Cert.Pre_finite_unbiased.Own.facts) := by
  intro m ρ m' ρ' hpre hagree
  refine ⟨fun c => shapeCast Cert.KernelIdeal.S128x2x512 (Cert.KernelIdeal.Own.result m c)
      Cert.KernelIdeal.Facts₀.shapeCasts_S256x512_S128x2x512,
    fun c => (broadcastInDim Cert.KernelIdeal.S1 ![] Cert.KernelIdeal.Facts₀.bcast_S_S1
      (constant Cert.KernelIdeal.S_ .f32 0x00000000#32) : FVec Ideal Cert.KernelIdeal.S1 .f32), ?_, ?_⟩
  · exact (θ_run Cert.KernelIdeal.defs _ _).mono (fun r h c => ⟨(h.1 c).1, (h.1 c).2, h.2 c⟩)
      (θ_run_and (Cert.KernelIdeal.Own.run (F := Ideal) m ρ) (Cert.KernelIdeal.Gen.unchanged (F := Ideal) m ρ))
  · refine (θ_run Cert.ReferenceIdeal.defs _ _).mono (fun r h c => ?_) (Cert.ReferenceIdeal.Value.run (F := Ideal) m' ρ')
    obtain ⟨p0, p2, p5, p6, p4, p7, p8⟩ := hpre c
    obtain ⟨g0, _, g2, g3, g4, g5, g6, g7, g8⟩ := hagree c
    refine ⟨((h c).1.trans (Cert.ReferenceIdeal.Value.val3_main_v115 (StableHlo.launchContents m' c)).symm).trans ?_, (h c).2⟩
    exact Cert.KernelIdeal.Own.agree m c (StableHlo.launchContents m' c) g0 g2 g3 g5 g6
      (Cert.Pre_finite_unbiased.Own.input _ _ _ _ _ _ _ _ _ p0)
      (Cert.Pre_finite_unbiased.Own.projection _ _ _ _ _ _ _ _ _ p2)
      (Cert.Pre_finite_unbiased.Own.first _ _ _ _ _ _ _ _ _ p5)
      (Cert.Pre_finite_unbiased.Own.second _ _ _ _ _ _ _ _ _ p6)
      (fun b => (congrFun g4 _).trans (Cert.Pre_finite_unbiased.Own.map_bias _ _ _ _ _ _ _ _ _ p4 b))
      (fun o k => (congrFun g7 _).trans (Cert.Pre_finite_unbiased.Own.bias_matrix _ _ _ _ _ _ _ _ _ p7 o k))
      (fun o => (congrFun g8 _).trans (Cert.Pre_finite_unbiased.Own.bias_vector _ _ _ _ _ _ _ _ _ p8 o))

/-- Every claim of the certificate. -/
theorem claim : Cert.Claim := ⟨Cert.Kernel.Gen.facts, Cert.KernelIdeal.Gen.facts, Cert.ReferenceIdeal.Gen.facts,
  Cert.Pre_finite_unbiased.Own.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  trivial, algebraic⟩

end Cert.Proof

end
